-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 1024]⟩ ⟨2, ![2048, 1024]⟩ (Layout.meshBlock [2, 2, 4] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 4096]⟩ ⟨2, ![2048, 4096]⟩ (Layout.meshBlock [2, 2, 4] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 4096]⟩ ⟨2, ![1024, 4096]⟩ (Layout.meshBlock [2, 2, 4] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1024 : Shape := ⟨2, ![1024, 1024]⟩
abbrev S1024x4096 : Shape := ⟨2, ![1024, 4096]⟩
abbrev S512x4096 : Shape := ⟨2, ![512, 4096]⟩
abbrev S512x256 : Shape := ⟨2, ![512, 256]⟩
abbrev S5x512x256 : Shape := ⟨3, ![5, 512, 256]⟩
abbrev S4x512x256 : Shape := ⟨3, ![4, 512, 256]⟩
abbrev S_ : Shape := ⟨0, ![]⟩
abbrev S4 : Shape := ⟨1, ![4]⟩
abbrev S3 : Shape := ⟨1, ![3]⟩
abbrev S1024x256 : Shape := ⟨2, ![1024, 256]⟩
abbrev S1024x512 : Shape := ⟨2, ![1024, 512]⟩
abbrev S1x512x256 : Shape := ⟨3, ![1, 512, 256]⟩
abbrev S1 : Shape := ⟨1, ![1]⟩

abbrev nBuf : Space → Nat
  | .hbm => 3
  | .vmem => 11
  | .smem => 0
  | _ => 0

abbrev bufTy : (tb : Table) → Fin (tcTables nBuf tb) → BufTy
  | .hbm, ⟨0, _⟩ => ⟨S1024x1024, .f32⟩
  | .hbm, ⟨1, _⟩ => ⟨S1024x4096, .f32⟩
  | .hbm, ⟨2, _⟩ => ⟨S512x4096, .f32⟩
  | .local _ .vmem, ⟨0, _⟩ => ⟨S1024x1024, .f32⟩
  | .local _ .vmem, ⟨1, _⟩ => ⟨S1024x4096, .f32⟩
  | .local _ .vmem, ⟨2, _⟩ => ⟨S512x4096, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S5x512x256, .f32⟩
  | .local _ .vmem, ⟨8, _⟩ => ⟨S4x512x256, .f32⟩
  | .local _ .vmem, ⟨9, _⟩ => ⟨S4x512x256, .f32⟩
  | .local _ .vmem, ⟨10, _⟩ => ⟨S5x512x256, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_29 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .slt v22 c4_i32_9
  let c0_i32_10 : BitVec 32 := 0#32
  let c1_i32_11 : BitVec 32 := 1#32
  let v24 : BitVec 32 := Scalar.select v23 c0_i32_10 c1_i32_11
  let c8_i32_28 : BitVec 32 := 8#32
  let v46 : BitVec 32 := Scalar.muli v24 c8_i32_28
  let v47 : BitVec 32 := Scalar.addi c0_i32_29 v46
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_30 : BitVec 32 := 4#32
  let v48 : BitVec 32 := Scalar.muli v5 c4_i32_30
  let v49 : BitVec 32 := Scalar.addi v47 v48
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_31 : BitVec 32 := 1#32
  let v50 : BitVec 32 := Scalar.muli v27 c1_i32_31
  let v51 : BitVec 32 := Scalar.addi v49 v50
  v51.toNat
def k0_dev2 (d0 : Dev nD) : Nat :=
  let c0_i32_34 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .slt v38 c4_i32_21
  let c0_i32_22 : BitVec 32 := 0#32
  let c1_i32_23 : BitVec 32 := 1#32
  let v40 : BitVec 32 := Scalar.select v39 c0_i32_22 c1_i32_23
  let c8_i32_33 : BitVec 32 := 8#32
  let v52 : BitVec 32 := Scalar.muli v40 c8_i32_33
  let v53 : BitVec 32 := Scalar.addi c0_i32_34 v52
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_35 : BitVec 32 := 4#32
  let v54 : BitVec 32 := Scalar.muli v5 c4_i32_35
  let v55 : BitVec 32 := Scalar.addi v53 v54
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_36 : BitVec 32 := 1#32
  let v56 : BitVec 32 := Scalar.muli v43 c1_i32_36
  let v57 : BitVec 32 := Scalar.addi v55 v56
  v57.toNat
def k0_dev3 (d0 : Dev nD) : Nat :=
  let c0_i32_39 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_38 : BitVec 32 := 8#32
  let v58 : BitVec 32 := Scalar.muli v2 c8_i32_38
  let v59 : BitVec 32 := Scalar.addi c0_i32_39 v58
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v44 : BitVec 32 := Scalar.subi c1_i32_26 v5
  let c4_i32_40 : BitVec 32 := 4#32
  let v60 : BitVec 32 := Scalar.muli v44 c4_i32_40
  let v61 : BitVec 32 := Scalar.addi v59 v60
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v62 : BitVec 32 := Scalar.muli v8 c1_i32_41
  let v63 : BitVec 32 := Scalar.addi v61 v62
  v63.toNat
def k0_off1 (d0 : Dev nD) : Fin 2 → Nat :=
  let c0 : Index := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c512_i32 : BitVec 32 := 512#32
  let v64 : BitVec 32 := Scalar.muli v11 c512_i32
  let v65 : Index := Scalar.indexCast v64
  ![0, v65.toNat]
def k0_off2 (d0 : Dev nD) : Fin 2 → Nat :=
  let c0_43 : Index := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c512_i32_42 : BitVec 32 := 512#32
  let v68 : BitVec 32 := Scalar.muli v11 c512_i32_42
  let c256_i32 : BitVec 32 := 256#32
  let v69 : BitVec 32 := Scalar.addi v68 c256_i32
  let v70 : Index := Scalar.indexCast v69
  ![0, v70.toNat]
def k0_off3 (d0 : Dev nD) : Fin 2 → Nat :=
  let c0_46 : Index := 0#32
  let c1_i32_44 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v73 : BitVec 32 := Scalar.subi c1_i32_44 v5
  let c512_i32_45 : BitVec 32 := 512#32
  let v74 : BitVec 32 := Scalar.muli v73 c512_i32_45
  let v75 : Index := Scalar.indexCast v74
  ![0, v75.toNat]
def k0_off4 (d0 : Dev nD) : Fin 2 → Nat :=
  let c0_48 : Index := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32_47 : BitVec 32 := 512#32
  let v78 : BitVec 32 := Scalar.muli v5 c512_i32_47
  let v79 : Index := Scalar.indexCast v78
  ![0, v79.toNat]
def k0_dev4 (d0 : Dev nD) : Nat :=
  let c0_i32_52 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_51 : BitVec 32 := 8#32
  let v86 : BitVec 32 := Scalar.muli v2 c8_i32_51
  let v87 : BitVec 32 := Scalar.addi c0_i32_52 v86
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v44 : BitVec 32 := Scalar.subi c1_i32_26 v5
  let c4_i32_53 : BitVec 32 := 4#32
  let v88 : BitVec 32 := Scalar.muli v44 c4_i32_53
  let v89 : BitVec 32 := Scalar.addi v87 v88
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_54 : BitVec 32 := 1#32
  let v90 : BitVec 32 := Scalar.muli v8 c1_i32_54
  let v91 : BitVec 32 := Scalar.addi v89 v90
  v91.toNat
def k0_dev5 (d0 : Dev nD) : Nat :=
  let c0_i32_59 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_58 : BitVec 32 := 8#32
  let v96 : BitVec 32 := Scalar.muli v2 c8_i32_58
  let v97 : BitVec 32 := Scalar.addi c0_i32_59 v96
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v44 : BitVec 32 := Scalar.subi c1_i32_26 v5
  let c4_i32_60 : BitVec 32 := 4#32
  let v98 : BitVec 32 := Scalar.muli v44 c4_i32_60
  let v99 : BitVec 32 := Scalar.addi v97 v98
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_61 : BitVec 32 := 1#32
  let v100 : BitVec 32 := Scalar.muli v8 c1_i32_61
  let v101 : BitVec 32 := Scalar.addi v99 v100
  v101.toNat
def k0_dev6 (d0 : Dev nD) : Nat :=
  let c0_i32_80 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .slt v22 c4_i32_9
  let c0_i32_10 : BitVec 32 := 0#32
  let c1_i32_11 : BitVec 32 := 1#32
  let v24 : BitVec 32 := Scalar.select v23 c0_i32_10 c1_i32_11
  let c8_i32_79 : BitVec 32 := 8#32
  let v117 : BitVec 32 := Scalar.muli v24 c8_i32_79
  let v118 : BitVec 32 := Scalar.addi c0_i32_80 v117
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_81 : BitVec 32 := 4#32
  let v119 : BitVec 32 := Scalar.muli v5 c4_i32_81
  let v120 : BitVec 32 := Scalar.addi v118 v119
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_82 : BitVec 32 := 1#32
  let v121 : BitVec 32 := Scalar.muli v27 c1_i32_82
  let v122 : BitVec 32 := Scalar.addi v120 v121
  v122.toNat
def k0_dev7 (d0 : Dev nD) : Nat :=
  let c0_i32_92 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .slt v38 c4_i32_21
  let c0_i32_22 : BitVec 32 := 0#32
  let c1_i32_23 : BitVec 32 := 1#32
  let v40 : BitVec 32 := Scalar.select v39 c0_i32_22 c1_i32_23
  let c8_i32_91 : BitVec 32 := 8#32
  let v131 : BitVec 32 := Scalar.muli v40 c8_i32_91
  let v132 : BitVec 32 := Scalar.addi c0_i32_92 v131
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_93 : BitVec 32 := 4#32
  let v133 : BitVec 32 := Scalar.muli v5 c4_i32_93
  let v134 : BitVec 32 := Scalar.addi v132 v133
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_94 : BitVec 32 := 1#32
  let v135 : BitVec 32 := Scalar.muli v43 c1_i32_94
  let v136 : BitVec 32 := Scalar.addi v134 v135
  v136.toNat
def k0_off5 (d0 : Dev nD) (c0_i32_99 : BitVec 32) (c0_i32_107 : BitVec 32) : Fin 2 → Nat :=
  let c0_108 : Index := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let v145 : BitVec 32 := Scalar.addi v11 c0_i32_99
  let c8_i32_100 : BitVec 32 := 8#32
  let c0_i32_101 : BitVec 32 := 0#32
  let v146 : BitVec 1 := Scalar.cmpi .eq c8_i32_100 c0_i32_101
  let c1_i32_102 : BitVec 32 := 1#32
  let v147 : BitVec 32 := Scalar.select v146 c1_i32_102 c8_i32_100
  let v148 : BitVec 32 := Scalar.remsi v145 v147
  let c0_i32_104 : BitVec 32 := 0#32
  let v150 : BitVec 1 := Scalar.cmpi .slt v148 c0_i32_104
  let c0_i32_105 : BitVec 32 := 0#32
  let v151 : BitVec 1 := Scalar.cmpi .slt v147 c0_i32_105
  let v152 : BitVec 1 := Scalar.xori v150 v151
  let c0_i32_103 : BitVec 32 := 0#32
  let v149 : BitVec 1 := Scalar.cmpi .ne v148 c0_i32_103
  let v153 : BitVec 1 := Scalar.andi v152 v149
  let v154 : BitVec 32 := Scalar.addi v148 v147
  let v155 : BitVec 32 := Scalar.select v153 v154 v148
  let c512_i32_106 : BitVec 32 := 512#32
  let v156 : BitVec 32 := Scalar.muli v155 c512_i32_106
  let v157 : BitVec 32 := Scalar.addi v156 c0_i32_107
  let v158 : Index := Scalar.indexCast v157
  ![0, v158.toNat]
def k0_off5_at (r : Fin 16) : BitVec 32 × BitVec 32 :=
  if r.val < 8 then
    if r.val < 4 then
      if r.val < 2 then
        if r.val < 1 then
          (0#32, 0#32)
        else
          (0#32, 256#32)
      else
        if r.val < 3 then
          (4294967295#32, 0#32)
        else
          (1#32, 0#32)
    else
      if r.val < 6 then
        if r.val < 5 then
          (4294967295#32, 256#32)
        else
          (1#32, 256#32)
      else
        if r.val < 7 then
          (4294967294#32, 0#32)
        else
          (2#32, 0#32)
  else
    if r.val < 12 then
      if r.val < 10 then
        if r.val < 9 then
          (4294967294#32, 256#32)
        else
          (2#32, 256#32)
      else
        if r.val < 11 then
          (4294967293#32, 0#32)
        else
          (3#32, 256#32)
    else
      if r.val < 14 then
        if r.val < 13 then
          (3#32, 0#32)
        else
          (4294967293#32, 256#32)
      else
        if r.val < 15 then
          (4294967292#32, 0#32)
        else
          (4#32, 256#32)
def k0_dev8 (d0 : Dev nD) : Nat :=
  let c0_i32_127 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .slt v22 c4_i32_9
  let c0_i32_10 : BitVec 32 := 0#32
  let c1_i32_11 : BitVec 32 := 1#32
  let v24 : BitVec 32 := Scalar.select v23 c0_i32_10 c1_i32_11
  let c8_i32_126 : BitVec 32 := 8#32
  let v175 : BitVec 32 := Scalar.muli v24 c8_i32_126
  let v176 : BitVec 32 := Scalar.addi c0_i32_127 v175
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_128 : BitVec 32 := 4#32
  let v177 : BitVec 32 := Scalar.muli v5 c4_i32_128
  let v178 : BitVec 32 := Scalar.addi v176 v177
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_129 : BitVec 32 := 1#32
  let v179 : BitVec 32 := Scalar.muli v27 c1_i32_129
  let v180 : BitVec 32 := Scalar.addi v178 v179
  v180.toNat
def k0_dev9 (d0 : Dev nD) : Nat :=
  let c0_i32_139 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .slt v38 c4_i32_21
  let c0_i32_22 : BitVec 32 := 0#32
  let c1_i32_23 : BitVec 32 := 1#32
  let v40 : BitVec 32 := Scalar.select v39 c0_i32_22 c1_i32_23
  let c8_i32_138 : BitVec 32 := 8#32
  let v189 : BitVec 32 := Scalar.muli v40 c8_i32_138
  let v190 : BitVec 32 := Scalar.addi c0_i32_139 v189
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_140 : BitVec 32 := 4#32
  let v191 : BitVec 32 := Scalar.muli v5 c4_i32_140
  let v192 : BitVec 32 := Scalar.addi v190 v191
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_141 : BitVec 32 := 1#32
  let v193 : BitVec 32 := Scalar.muli v43 c1_i32_141
  let v194 : BitVec 32 := Scalar.addi v192 v193
  v194.toNat
def k0_dev10 (d0 : Dev nD) : Nat :=
  let c0_i32_173 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .slt v22 c4_i32_9
  let c0_i32_10 : BitVec 32 := 0#32
  let c1_i32_11 : BitVec 32 := 1#32
  let v24 : BitVec 32 := Scalar.select v23 c0_i32_10 c1_i32_11
  let c8_i32_172 : BitVec 32 := 8#32
  let v230 : BitVec 32 := Scalar.muli v24 c8_i32_172
  let v231 : BitVec 32 := Scalar.addi c0_i32_173 v230
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_174 : BitVec 32 := 4#32
  let v232 : BitVec 32 := Scalar.muli v5 c4_i32_174
  let v233 : BitVec 32 := Scalar.addi v231 v232
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_175 : BitVec 32 := 1#32
  let v234 : BitVec 32 := Scalar.muli v27 c1_i32_175
  let v235 : BitVec 32 := Scalar.addi v233 v234
  v235.toNat
def k0_dev11 (d0 : Dev nD) : Nat :=
  let c0_i32_197 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .slt v38 c4_i32_21
  let c0_i32_22 : BitVec 32 := 0#32
  let c1_i32_23 : BitVec 32 := 1#32
  let v40 : BitVec 32 := Scalar.select v39 c0_i32_22 c1_i32_23
  let c8_i32_196 : BitVec 32 := 8#32
  let v256 : BitVec 32 := Scalar.muli v40 c8_i32_196
  let v257 : BitVec 32 := Scalar.addi c0_i32_197 v256
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_198 : BitVec 32 := 4#32
  let v258 : BitVec 32 := Scalar.muli v5 c4_i32_198
  let v259 : BitVec 32 := Scalar.addi v257 v258
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_199 : BitVec 32 := 1#32
  let v260 : BitVec 32 := Scalar.muli v43 c1_i32_199
  let v261 : BitVec 32 := Scalar.addi v259 v260
  v261.toNat
def k0_dev12 (d0 : Dev nD) : Nat :=
  let c0_i32_221 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .slt v22 c4_i32_9
  let c0_i32_10 : BitVec 32 := 0#32
  let c1_i32_11 : BitVec 32 := 1#32
  let v24 : BitVec 32 := Scalar.select v23 c0_i32_10 c1_i32_11
  let c8_i32_220 : BitVec 32 := 8#32
  let v282 : BitVec 32 := Scalar.muli v24 c8_i32_220
  let v283 : BitVec 32 := Scalar.addi c0_i32_221 v282
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_222 : BitVec 32 := 4#32
  let v284 : BitVec 32 := Scalar.muli v5 c4_i32_222
  let v285 : BitVec 32 := Scalar.addi v283 v284
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_223 : BitVec 32 := 1#32
  let v286 : BitVec 32 := Scalar.muli v27 c1_i32_223
  let v287 : BitVec 32 := Scalar.addi v285 v286
  v287.toNat
def k0_dev13 (d0 : Dev nD) : Nat :=
  let c0_i32_245 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .slt v38 c4_i32_21
  let c0_i32_22 : BitVec 32 := 0#32
  let c1_i32_23 : BitVec 32 := 1#32
  let v40 : BitVec 32 := Scalar.select v39 c0_i32_22 c1_i32_23
  let c8_i32_244 : BitVec 32 := 8#32
  let v308 : BitVec 32 := Scalar.muli v40 c8_i32_244
  let v309 : BitVec 32 := Scalar.addi c0_i32_245 v308
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_246 : BitVec 32 := 4#32
  let v310 : BitVec 32 := Scalar.muli v5 c4_i32_246
  let v311 : BitVec 32 := Scalar.addi v309 v310
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_247 : BitVec 32 := 1#32
  let v312 : BitVec 32 := Scalar.muli v43 c1_i32_247
  let v313 : BitVec 32 := Scalar.addi v311 v312
  v313.toNat
def k0_dev14 (d0 : Dev nD) : Nat :=
  let c0_i32_319 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .slt v22 c4_i32_9
  let c0_i32_10 : BitVec 32 := 0#32
  let c1_i32_11 : BitVec 32 := 1#32
  let v24 : BitVec 32 := Scalar.select v23 c0_i32_10 c1_i32_11
  let c8_i32_318 : BitVec 32 := 8#32
  let v402 : BitVec 32 := Scalar.muli v24 c8_i32_318
  let v403 : BitVec 32 := Scalar.addi c0_i32_319 v402
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_320 : BitVec 32 := 4#32
  let v404 : BitVec 32 := Scalar.muli v5 c4_i32_320
  let v405 : BitVec 32 := Scalar.addi v403 v404
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_321 : BitVec 32 := 1#32
  let v406 : BitVec 32 := Scalar.muli v27 c1_i32_321
  let v407 : BitVec 32 := Scalar.addi v405 v406
  v407.toNat
def k0_dev15 (d0 : Dev nD) : Nat :=
  let c0_i32_343 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .slt v38 c4_i32_21
  let c0_i32_22 : BitVec 32 := 0#32
  let c1_i32_23 : BitVec 32 := 1#32
  let v40 : BitVec 32 := Scalar.select v39 c0_i32_22 c1_i32_23
  let c8_i32_342 : BitVec 32 := 8#32
  let v428 : BitVec 32 := Scalar.muli v40 c8_i32_342
  let v429 : BitVec 32 := Scalar.addi c0_i32_343 v428
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_344 : BitVec 32 := 4#32
  let v430 : BitVec 32 := Scalar.muli v5 c4_i32_344
  let v431 : BitVec 32 := Scalar.addi v429 v430
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_345 : BitVec 32 := 1#32
  let v432 : BitVec 32 := Scalar.muli v43 c1_i32_345
  let v433 : BitVec 32 := Scalar.addi v431 v432
  v433.toNat
def k0_dev16 (d0 : Dev nD) : Nat :=
  let c0_i32_367 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .slt v22 c4_i32_9
  let c0_i32_10 : BitVec 32 := 0#32
  let c1_i32_11 : BitVec 32 := 1#32
  let v24 : BitVec 32 := Scalar.select v23 c0_i32_10 c1_i32_11
  let c8_i32_366 : BitVec 32 := 8#32
  let v454 : BitVec 32 := Scalar.muli v24 c8_i32_366
  let v455 : BitVec 32 := Scalar.addi c0_i32_367 v454
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_368 : BitVec 32 := 4#32
  let v456 : BitVec 32 := Scalar.muli v5 c4_i32_368
  let v457 : BitVec 32 := Scalar.addi v455 v456
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_369 : BitVec 32 := 1#32
  let v458 : BitVec 32 := Scalar.muli v27 c1_i32_369
  let v459 : BitVec 32 := Scalar.addi v457 v458
  v459.toNat
def k0_dev17 (d0 : Dev nD) : Nat :=
  let c0_i32_391 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .slt v38 c4_i32_21
  let c0_i32_22 : BitVec 32 := 0#32
  let c1_i32_23 : BitVec 32 := 1#32
  let v40 : BitVec 32 := Scalar.select v39 c0_i32_22 c1_i32_23
  let c8_i32_390 : BitVec 32 := 8#32
  let v480 : BitVec 32 := Scalar.muli v40 c8_i32_390
  let v481 : BitVec 32 := Scalar.addi c0_i32_391 v480
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_392 : BitVec 32 := 4#32
  let v482 : BitVec 32 := Scalar.muli v5 c4_i32_392
  let v483 : BitVec 32 := Scalar.addi v481 v482
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_393 : BitVec 32 := 1#32
  let v484 : BitVec 32 := Scalar.muli v43 c1_i32_393
  let v485 : BitVec 32 := Scalar.addi v483 v484
  v485.toNat
def k0_dev18 (d0 : Dev nD) : Nat :=
  let c0_i32_465 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .slt v22 c4_i32_9
  let c0_i32_10 : BitVec 32 := 0#32
  let c1_i32_11 : BitVec 32 := 1#32
  let v24 : BitVec 32 := Scalar.select v23 c0_i32_10 c1_i32_11
  let c8_i32_464 : BitVec 32 := 8#32
  let v574 : BitVec 32 := Scalar.muli v24 c8_i32_464
  let v575 : BitVec 32 := Scalar.addi c0_i32_465 v574
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_466 : BitVec 32 := 4#32
  let v576 : BitVec 32 := Scalar.muli v5 c4_i32_466
  let v577 : BitVec 32 := Scalar.addi v575 v576
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_467 : BitVec 32 := 1#32
  let v578 : BitVec 32 := Scalar.muli v27 c1_i32_467
  let v579 : BitVec 32 := Scalar.addi v577 v578
  v579.toNat
def k0_dev19 (d0 : Dev nD) : Nat :=
  let c0_i32_489 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .slt v38 c4_i32_21
  let c0_i32_22 : BitVec 32 := 0#32
  let c1_i32_23 : BitVec 32 := 1#32
  let v40 : BitVec 32 := Scalar.select v39 c0_i32_22 c1_i32_23
  let c8_i32_488 : BitVec 32 := 8#32
  let v600 : BitVec 32 := Scalar.muli v40 c8_i32_488
  let v601 : BitVec 32 := Scalar.addi c0_i32_489 v600
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_490 : BitVec 32 := 4#32
  let v602 : BitVec 32 := Scalar.muli v5 c4_i32_490
  let v603 : BitVec 32 := Scalar.addi v601 v602
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_491 : BitVec 32 := 1#32
  let v604 : BitVec 32 := Scalar.muli v43 c1_i32_491
  let v605 : BitVec 32 := Scalar.addi v603 v604
  v605.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x1024 : Shape := ⟨2, ![2048, 1024]⟩
abbrev S2048x4096 : Shape := ⟨2, ![2048, 4096]⟩
abbrev S1024x2048 : Shape := ⟨2, ![1024, 2048]⟩
abbrev S1024x4096 : Shape := ⟨2, ![1024, 4096]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S1024x2048, .f32⟩
  | .hbm, ⟨3, _⟩ => ⟨S1024x4096, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.KernelIdeal.Mesh.lean ====
/-
# The mesh: two rings of eight devices, and a partner across

The sixteen devices are numbered `8 * mx + 4 * my + mz`. For each `my` the eight devices of the `x`–`z` plane form a
ring: position `mz` on the plane `mx = 0` and `7 - mz` on the plane `mx = 1`. A device's three neighbours are the next
device of its ring, the one before, and the device with the other `my` at the same place of the other ring.
-/
module

public import proofs.«01_k».proof.Proof.Gen.KernelIdeal

@[expose] public section

namespace Cert.KernelIdeal.Reduce

open Cert.KernelIdeal Cert.KernelIdeal.Gen
open Idealize.ShloMosaic

set_option backward.proofsInPublic true

/-- The ring a device is on: its coordinate `my`. -/
def row (c : Dev nD) : Fin 2 := ⟨c.val / 4 % 2, Nat.mod_lt _ (by decide)⟩
/-- A device's position on its ring. -/
def pos (c : Dev nD) : Fin 8 := ⟨(if c.val < 8 then c.val % 4 else 7 - c.val % 4), by split <;> omega⟩
/-- The device at a position of a ring. -/
def place (p : Fin 8) (y : Fin 2) : Dev nD :=
  ⟨if p.val < 4 then 4 * y.val + p.val else 8 + 4 * y.val + (7 - p.val), by show _ < 16; split <;> omega⟩

/-- The next device of the ring. -/
def right (c : Dev nD) : Dev nD := place (pos c + 1) (row c)
/-- The device before on the ring. -/
def left (c : Dev nD) : Dev nD := place (pos c - 1) (row c)
/-- The device at the same place of the other ring. -/
def across (c : Dev nD) : Dev nD := place (pos c) (row c + 1)

theorem place_pos_row : ∀ c : Dev nD, place (pos c) (row c) = c := by decide +kernel
theorem left_right : ∀ c : Dev nD, left (right c) = c := by decide +kernel
theorem right_left : ∀ c : Dev nD, right (left c) = c := by decide +kernel
theorem across_across : ∀ c : Dev nD, across (across c) = c := by decide +kernel
theorem row_right : ∀ c : Dev nD, row (right c) = row c := by decide +kernel
theorem row_left : ∀ c : Dev nD, row (left c) = row c := by decide +kernel
theorem row_across : ∀ c : Dev nD, row (across c) = row c + 1 := by decide +kernel
theorem pos_across : ∀ c : Dev nD, pos (across c) = pos c := by decide +kernel

theorem row_left_iter (h : ℕ) (c : Dev nD) : row (left^[h] c) = row c := by
  induction h generalizing c with
  | zero => rfl
  | succ h ih => exact (ih (left c)).trans (row_left c)
theorem row_right_iter (h : ℕ) (c : Dev nD) : row (right^[h] c) = row c := by
  induction h generalizing c with
  | zero => rfl
  | succ h ih => exact (ih (right c)).trans (row_right c)

/-! ## The devices the kernel's index arithmetic names -/

theorem dev1_eq : ∀ c : Dev nD, (⟨k0_dev1 c, k0_dev1_lt c⟩ : Dev nD) = right c := by decide +kernel
theorem dev2_eq : ∀ c : Dev nD, (⟨k0_dev2 c, k0_dev2_lt c⟩ : Dev nD) = left c := by decide +kernel
theorem dev3_eq : ∀ c : Dev nD, (⟨k0_dev3 c, k0_dev3_lt c⟩ : Dev nD) = across c := by decide +kernel
theorem dev4_eq : ∀ c : Dev nD, (⟨k0_dev4 c, k0_dev4_lt c⟩ : Dev nD) = across c := by decide +kernel
theorem dev5_eq : ∀ c : Dev nD, (⟨k0_dev5 c, k0_dev5_lt c⟩ : Dev nD) = across c := by decide +kernel
theorem dev6_eq : ∀ c : Dev nD, (⟨k0_dev6 c, k0_dev6_lt c⟩ : Dev nD) = right c := by decide +kernel
theorem dev7_eq : ∀ c : Dev nD, (⟨k0_dev7 c, k0_dev7_lt c⟩ : Dev nD) = left c := by decide +kernel
theorem dev8_eq : ∀ c : Dev nD, (⟨k0_dev8 c, k0_dev8_lt c⟩ : Dev nD) = right c := by decide +kernel
theorem dev9_eq : ∀ c : Dev nD, (⟨k0_dev9 c, k0_dev9_lt c⟩ : Dev nD) = left c := by decide +kernel
theorem dev10_eq : ∀ c : Dev nD, (⟨k0_dev10 c, k0_dev10_lt c⟩ : Dev nD) = right c := by decide +kernel
theorem dev11_eq : ∀ c : Dev nD, (⟨k0_dev11 c, k0_dev11_lt c⟩ : Dev nD) = left c := by decide +kernel
theorem dev12_eq : ∀ c : Dev nD, (⟨k0_dev12 c, k0_dev12_lt c⟩ : Dev nD) = right c := by decide +kernel
theorem dev13_eq : ∀ c : Dev nD, (⟨k0_dev13 c, k0_dev13_lt c⟩ : Dev nD) = left c := by decide +kernel
theorem dev14_eq : ∀ c : Dev nD, (⟨k0_dev14 c, k0_dev14_lt c⟩ : Dev nD) = right c := by decide +kernel
theorem dev15_eq : ∀ c : Dev nD, (⟨k0_dev15 c, k0_dev15_lt c⟩ : Dev nD) = left c := by decide +kernel
theorem dev16_eq : ∀ c : Dev nD, (⟨k0_dev16 c, k0_dev16_lt c⟩ : Dev nD) = right c := by decide +kernel
theorem dev17_eq : ∀ c : Dev nD, (⟨k0_dev17 c, k0_dev17_lt c⟩ : Dev nD) = left c := by decide +kernel
theorem dev18_eq : ∀ c : Dev nD, (⟨k0_dev18 c, k0_dev18_lt c⟩ : Dev nD) = right c := by decide +kernel
theorem dev19_eq : ∀ c : Dev nD, (⟨k0_dev19 c, k0_dev19_lt c⟩ : Dev nD) = left c := by decide +kernel

/-! ## Column blocks of the result

The result's 4096 columns are sixteen blocks of 256: two for each ring position. -/

/-- The column block of a device's position and a half. -/
def blk (c : Dev nD) (s : Fin 2) : Fin 16 := ⟨2 * (pos c).val + s.val, by have := (pos c).isLt; omega⟩

/-- The blocks a device writes, in the order it writes them. -/
def writes (c : Dev nD) : Fin 16 → Fin 16 :=
  ![blk c 0, blk c 1,
    blk (left^[1] c) 0, blk (right^[1] c) 0, blk (left^[1] c) 1, blk (right^[1] c) 1,
    blk (left^[2] c) 0, blk (right^[2] c) 0, blk (left^[2] c) 1, blk (right^[2] c) 1,
    blk (left^[3] c) 0, blk (right^[3] c) 1, blk (right^[3] c) 0, blk (left^[3] c) 1,
    blk (left^[4] c) 0, blk (right^[4] c) 1]

/-- The columns the kernel's index arithmetic stores at are these blocks' first columns. -/
theorem off5_eq : ∀ (r : Fin 16) (c : Dev nD), k0_off5 c (k0_off5_at r).1 (k0_off5_at r).2 = ![0, 256 * (writes c r).val] := by
  decide +kernel

/-- Every block of the result is written. -/
theorem writes_all : ∀ (c : Dev nD) (b : Fin 16), ∃ r : Fin 16, writes c r = b := by decide +kernel

/-- The offsets of the kernel's four operand loads: a device's two column blocks of `dy`, the half of `x` its partner
    across needs, and the half of `x` it needs itself. -/
theorem off1_eq : ∀ c : Dev nD, k0_off1 c = ![0, 256 * (blk c 0).val] := by decide +kernel
theorem off2_eq : ∀ c : Dev nD, k0_off2 c = ![0, 256 * (blk c 1).val] := by decide +kernel
theorem off3_eq : ∀ c : Dev nD, k0_off3 c = ![0, 512 * (row (across c)).val] := by decide +kernel
theorem off4_eq : ∀ c : Dev nD, k0_off4 c = ![0, 512 * (row c).val] := by decide +kernel

end Cert.KernelIdeal.Reduce
-- ==== Proof.KernelIdeal.Slots.lean ====
/-
# Slots of a stacked buffer

A communication buffer is a stack of `n` slots, each a 512 × 256 block. A slot is the memref the kernel names by a slice
of the stack and a squeeze. Here: the whole stack is its slots, and what a load or a store of a slot's rectangle through
the stack means for the slot.
-/
module

public import proofs.«01_k».proof.Proof.KernelIdeal.Mesh
public import Idealize.ShloMosaic.Lib.Pipeline.Launch
public import Idealize.ShloMosaic.Lib.Pipeline.Kit
public import Idealize.ShloMosaic.Lib.Pipeline.Value
public import Idealize.ShloMosaic.Lib.MemrefSat
public import Idealize.ShloMosaic.Lib.Ring
public import Idealize.ShloMosaic.Lib.Tactic

@[expose] public section

noncomputable section

namespace Cert.KernelIdeal.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-- A stack of `n` blocks. -/
abbrev Stack (n : ℕ) : Shape := ⟨3, ![n, 512, 256]⟩

theorem slot_inb {n : ℕ} (j : Fin n) : ∀ a, (![j.val, 0, 0] : Fin 3 → ℕ) a + S1x512x256.size a ≤ (Stack n).size a := by
  intro a
  have := j.isLt
  fin_cases a
  · show j.val + 1 ≤ n; omega
  · show 0 + 512 ≤ 512; omega
  · show 0 + 256 ≤ 256; omega

/-- The rectangle of slot `j`. -/
abbrev slotRect (n : ℕ) (j : Fin n) : Rect (Stack n) := Rect.unit (s := Stack n) ![j.val, 0, 0] S1x512x256.size (slot_inb j)

/-- Slot `j` of a stack, as the kernel names it. -/
def slot {n : ℕ} (M : Memref sig .tc .vmem (Stack n) .f32) (j : Fin n) : Memref sig .tc .vmem S512x256 .f32 :=
  (M.slice (slotRect n j) (fun _ => rfl)).squeeze S512x256 squeezes_S1x512x256_S512x256

variable {F : FTy → Type} [FloatOps F]
variable {Ix : Type} [DecidableEq Ix] {Name : Type} [DecidableEq Name] {U : Type} [URA U] {Lvl : Type}

local notation "𝕄" => MT nD τ sig Ix (Elt F) Name U Lvl

variable {n : ℕ} (M : Memref sig .tc .vmem (Stack n) .f32)

/-- The elements of slot `j` in the stack's buffer. -/
def slotSet (j : Fin n) : Finset M.view.ty.Idx := (slot M j).view.set

theorem slotSet_eq (j : Fin n) : slotSet M j = (slotRect n j).set.map M.view.emb :=
  (View.set_reshape (v := M.view.slice (slotRect n j)) _).trans (View.set_slice _ _)

/-- An index lies in slot `j` when its first coordinate is `j`. -/
theorem mem_slotRect (j : Fin n) (i : (Stack n).Idx) : i ∈ (slotRect n j).set ↔ (i 0).val = j.val := by
  rw [Rect.mem_set_unit]
  have h1 : (i 1).val < 512 := (i 1).isLt
  have h2 : (i 2).val < 256 := (i 2).isLt
  constructor
  · intro h
    have := h 0
    have a : (![j.val, 0, 0] : Fin 3 → ℕ) 0 = j.val := rfl
    have b : S1x512x256.size 0 = 1 := rfl
    rw [a, b] at this
    omega
  · intro h a
    fin_cases a
    · show j.val ≤ (i 0).val ∧ (i 0).val < j.val + 1; omega
    · show 0 ≤ (i 1).val ∧ (i 1).val < 0 + 512; omega
    · show 0 ≤ (i 2).val ∧ (i 2).val < 0 + 256; omega

theorem slots_disjoint (j j' : Fin n) (h : j ≠ j') : Disjoint (slotSet M j) (slotSet M j') := by
  rw [slotSet_eq, slotSet_eq]
  refine (Finset.disjoint_map _).mpr (Finset.disjoint_left.mpr fun i hi hi' => h (Fin.ext ?_))
  rw [← (mem_slotRect j i).mp hi, (mem_slotRect j' i).mp hi']

theorem slots_cover : (Finset.univ : Finset (Fin n)).biUnion (slotSet M) = M.view.set := by
  ext x
  rw [Finset.mem_biUnion]
  constructor
  · rintro ⟨j, -, hx⟩
    rw [slotSet_eq] at hx
    obtain ⟨i, -, rfl⟩ := Finset.mem_map.mp hx
    exact View.emb_mem_set _ i
  · intro hx
    obtain ⟨i, -, rfl⟩ := Finset.mem_map.mp hx
    refine ⟨(⟨(i 0).val, (i 0).isLt⟩ : Fin n), Finset.mem_univ _, ?_⟩
    rw [slotSet_eq]
    exact Finset.mem_map_of_mem _ ((mem_slotRect ⟨(i 0).val, (i 0).isLt⟩ i).mpr rfl)

/-- A block of a device's memory held whole, at contents not named. -/
def held (c : Dev nD) {s : Shape} {e : EltTy} (m : Memref sig .tc .vmem s e) : sProp 𝕄 := iprop(∃ X, owns (c : Thread nD τ) m fullShare X)

omit [FloatOps F] in
theorem held_intro (c : Dev nD) {s : Shape} {e : EltTy} (m : Memref sig .tc .vmem s e) (X : s.Idx → Elt F e) :
    (owns (c : Thread nD τ) m fullShare X : sProp 𝕄) ⊢ held c m := by
  unfold held; iintro H; iexists X; iexact H

omit [FloatOps F] in
/-- A held block is its elements' points-to at some contents. -/
theorem held_eq (c : Dev nD) {s : Shape} {e : EltTy} (m : Memref sig .tc .vmem s e) :
    (held c m : sProp 𝕄) ⊣⊢ iprop(∃ f, m.view.loc (c : Thread nD τ) ↦[m.view.set]{fullShare} f) := by
  unfold held owns
  constructor
  · iintro ⟨%X, %f, -, H⟩; iexists f; iexact H
  · iintro ⟨%f, H⟩; iexists _, f
    isplitr; · ipureintro; rfl
    iexact H

omit [FloatOps F] in
theorem held_slot (c : Dev nD) (j : Fin n) :
    (held c (slot M j) : sProp 𝕄) ⊣⊢ iprop(∃ f, M.view.loc (c : Thread nD τ) ↦[slotSet M j]{fullShare} f) := held_eq c (slot M j)

omit [FloatOps F] in
/-- A stack is its slots: apart, -/
theorem stack_split (c : Dev nD) (f : Buf (Elt F) (M.view.loc (c : Thread nD τ))) :
    (M.view.loc (c : Thread nD τ) ↦[M.view.set]{fullShare} f : sProp 𝕄) ⊢ bigSep Finset.univ fun j : Fin n => held c (slot M j) := by
  have h1 := Ring.pointsTo_sub_blocks (Ix := Ix) (Val := Elt F) (Name := Name) (U := U) (Lvl := Lvl) (ℓ := M.view.loc (c : Thread nD τ))
    (slotSet M) (slots_disjoint M) M.view.set (slots_cover M) (q := fullShare) f
  refine (Entails.of_eq h1).trans (bigSep_mono fun j _ => BI.Entails.trans ?_ (held_slot M c j).2)
  show (M.view.loc (c : Thread nD τ) ↦[slotSet M j]{fullShare} f : sProp 𝕄) ⊢ _
  iintro H; iexists f; iexact H

omit [FloatOps F] in
/-- and together again. -/
theorem stack_join (c : Dev nD) (f₀ : Buf (Elt F) (M.view.loc (c : Thread nD τ))) :
    (bigSep Finset.univ fun j : Fin n => held c (slot M j)) ⊢ (iprop(∃ f, M.view.loc (c : Thread nD τ) ↦[M.view.set]{fullShare} f) : sProp 𝕄) := by
  have h1 : (bigSep Finset.univ fun j : Fin n => held c (slot M j))
      ⊢ (bigSep Finset.univ fun j : Fin n => iprop(∃ f, M.view.loc (c : Thread nD τ) ↦[slotSet M j]{fullShare} f) : sProp 𝕄) :=
    bigSep_mono fun j _ => (held_slot M c j).1
  have h2 := Ring.pointsTo_sub_blocks_join_exists (Ix := Ix) (Val := Elt F) (Name := Name) (U := U) (Lvl := Lvl) (ℓ := M.view.loc (c : Thread nD τ))
    (slotSet M) (slots_disjoint M) M.view.set (slots_cover M) (q := fullShare) f₀
  exact h1.trans h2

/-! ## Reading and writing a slot through the stack -/

omit [FloatOps F] in
theorem numel_slot : S512x256.numel = S1x512x256.numel := by decide

omit [FloatOps F] in
/-- A block stored at a slot's rectangle is what the slot then holds. -/
theorem slot_read_write (j : Fin n) (f : (M.view.ty).Contents (Elt F)) (w : Vec F S1x512x256 .f32) :
    (slot M j).view.read (Elt F) ((M.access (slotRect n j)).write (Elt F) f w Finset.univ) = shapeCast S512x256 w numel_slot := by
  funext i
  exact congrFun (View.read_write_univ (v := M.access (slotRect n j)) f w) (Shape.reshapeEquiv numel_slot i)

end Cert.KernelIdeal.Reduce

end
-- ==== Proof.KernelIdeal.Table.lean ====
/-
# The sixteen transfers and their protocol

A device sends two blocks across (its partner's halves of the product) and fourteen along its ring: the finished left
column block rightwards four hops (`ra`) and leftwards three (`la`), the right one three (`rb`) and four (`lb`). For each
transfer `t` this file names the block it reads, the block it fills on the device it is addressed to, its two semaphores
and the contents it carries.

Who waits for whom:

* the barrier semaphore of a device is signalled once by each neighbour, which hands it the blocks the device will fill
  there; the device waits for all three;
* the receive semaphore of `t` is raised by the device the transfer comes from, and hands over the filled block;
* the send semaphore of `t` is raised when the source has been read, and hands the source's share back.

A device waits on the barrier owing all its transfers, and for a transfer owing only transfers of higher level: the
barrier is at level 1, the transfers across at 2, hop `h` of the rings at `3 + h`.
-/
module

public import proofs.«01_k».proof.Proof.KernelIdeal.Slots
public import proofs.«01_k».proof.Proof.Gen.KernelIdeal.Skeleton
public import proofs.«01_k».proof.Proof.Gen.KernelIdeal.Launch

@[expose] public section

noncomputable section

namespace Cert.KernelIdeal.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The transfers -/

/-- A device's transfers: across (`ya`, `yb`), and hop `h` of the rings. -/
inductive Xfer where
  | ya | yb | ra (h : Fin 4) | la (h : Fin 3) | rb (h : Fin 3) | lb (h : Fin 4)
deriving DecidableEq

/-- The transfers in the order a device starts them. -/
def order : List Xfer :=
  [.ya, .yb, .ra 0, .la 0, .rb 0, .lb 0, .ra 1, .la 1, .rb 1, .lb 1, .ra 2, .la 2, .rb 2, .lb 2, .ra 3, .lb 3]

instance : Fintype Xfer := ⟨order.toFinset, by
  rintro (_ | _ | h | h | h | h)
  · decide
  · decide
  all_goals revert h; decide⟩

theorem order_nodup : order.Nodup := by decide
theorem order_mem (t : Xfer) : t ∈ order := List.mem_toFinset.mp (Finset.mem_univ t)

/-- A device's three neighbours. -/
inductive Side where
  | across | right | left
deriving DecidableEq

def sides : List Side := [.right, .left, .across]
instance : Fintype Side := ⟨sides.toFinset, by intro s; cases s <;> decide⟩

/-- The neighbour on a side, -/
def nbr : Side → Dev nD → Dev nD
  | .across => across | .right => right | .left => left
/-- the side on which that neighbour sees this device, -/
def opp : Side → Side
  | .across => .across | .right => .left | .left => .right
theorem nbr_opp (s : Side) (c : Dev nD) : nbr s (nbr (opp s) c) = c := by
  cases s
  · exact across_across c
  · exact right_left c
  · exact left_right c
theorem opp_opp (s : Side) : opp (opp s) = s := by cases s <;> rfl
theorem nbr_opp' (s : Side) (c : Dev nD) : nbr (opp s) (nbr s c) = c := by
  have := nbr_opp (opp s) c; rwa [opp_opp] at this
/-- as a permutation of the devices. -/
def turn (s : Side) : Dev nD ≃ Dev nD := ⟨nbr s, nbr (opp s), nbr_opp' s, nbr_opp s⟩

/-- The side a transfer goes to. -/
def side : Xfer → Side
  | .ya => .across | .yb => .across | .ra _ => .right | .la _ => .left | .rb _ => .right | .lb _ => .left

/-- The device a transfer of `c` is addressed to, and the one whose transfer `c` receives. -/
abbrev tgt (t : Xfer) (c : Dev nD) : Dev nD := nbr (side t) c
abbrev src (t : Xfer) (c : Dev nD) : Dev nD := nbr (opp (side t)) c
theorem src_tgt (t : Xfer) (c : Dev nD) : src t (tgt t c) = c := nbr_opp' _ _

/-! ## Blocks and semaphores -/

abbrev xM : Memref sig .tc .vmem S1024x1024 .f32 := Memref.whole cc0_stg0_0
abbrev dyM : Memref sig .tc .vmem S1024x4096 .f32 := Memref.whole cc0_stg1_0
abbrev outM : Memref sig .tc .vmem S512x4096 .f32 := Memref.whole cc0_stg2_0
abbrev psA : Memref sig .tc .vmem S512x256 .f32 := Memref.whole cc0_scratch0
abbrev psB : Memref sig .tc .vmem S512x256 .f32 := Memref.whole cc0_scratch1
abbrev yrA : Memref sig .tc .vmem S512x256 .f32 := Memref.whole cc0_scratch2
abbrev yrB : Memref sig .tc .vmem S512x256 .f32 := Memref.whole cc0_scratch3
abbrev stRA : Memref sig .tc .vmem (Stack 5) .f32 := Memref.whole cc0_scratch4
abbrev stLA : Memref sig .tc .vmem (Stack 4) .f32 := Memref.whole cc0_scratch5
abbrev stRB : Memref sig .tc .vmem (Stack 4) .f32 := Memref.whole cc0_scratch6
abbrev stLB : Memref sig .tc .vmem (Stack 5) .f32 := Memref.whole cc0_scratch7

/-- The block a transfer reads: hop `h` sends on slot `h`, -/
def srcM : Xfer → Memref sig .tc .vmem S512x256 .f32
  | .ya => psA | .yb => psB
  | .ra h => slot stRA h.castSucc | .la h => slot stLA h.castSucc
  | .rb h => slot stRB h.castSucc | .lb h => slot stLB h.castSucc
/-- and fills slot `h + 1` of the next device. -/
def dstM : Xfer → Memref sig .tc .vmem S512x256 .f32
  | .ya => yrA | .yb => yrB
  | .ra h => slot stRA h.succ | .la h => slot stLA h.succ
  | .rb h => slot stRB h.succ | .lb h => slot stLB h.succ

set_option backward.proofsInPublic true in
/-- A transfer's send semaphore and -/
def sendS : Xfer → DmaSem sig
  | .ya => ⟨3, by decide⟩ | .yb => ⟨5, by decide⟩
  | .ra h => ⟨7 + h.val, by have := h.isLt; show _ < 35; omega⟩ | .la h => ⟨15 + h.val, by have := h.isLt; show _ < 35; omega⟩
  | .rb h => ⟨21 + h.val, by have := h.isLt; show _ < 35; omega⟩ | .lb h => ⟨27 + h.val, by have := h.isLt; show _ < 35; omega⟩
set_option backward.proofsInPublic true in
/-- its receive semaphore. -/
def recvS : Xfer → DmaSem sig
  | .ya => ⟨4, by decide⟩ | .yb => ⟨6, by decide⟩
  | .ra h => ⟨11 + h.val, by have := h.isLt; show _ < 35; omega⟩ | .la h => ⟨18 + h.val, by have := h.isLt; show _ < 35; omega⟩
  | .rb h => ⟨24 + h.val, by have := h.isLt; show _ < 35; omega⟩ | .lb h => ⟨31 + h.val, by have := h.isLt; show _ < 35; omega⟩

/-- The runtime's barrier semaphore. -/
abbrev barS : Sem sig := (SemArray.scalar (sig.barrier 0 rfl) : Sems sig S_).sem

/-- The semaphores of the protocol: the barrier's (`none`), a transfer's send (`false`) and receive (`true`). -/
abbrev Key : Type := Option (Xfer × Bool)

/-- A transfer's own semaphores, -/
def osem (k : Xfer × Bool) : SemLoc sig := .dma (if k.2 then recvS k.1 else sendS k.1)
/-- all of them, -/
def ksem : Key → SemLoc sig
  | none => .reg barS
  | some k => osem k
/-- and a device's cells. -/
def kcell (c : Dev nD) (k : Key) : GSem nD τ sig := ((c : Thread nD τ), ksem k)

abbrev barCell (c : Dev nD) : GSem nD τ sig := ((c : Thread nD τ), .reg barS)
abbrev sendCell (c : Dev nD) (t : Xfer) : GSem nD τ sig := ((c : Thread nD τ), .dma (sendS t))
abbrev recvCell (c : Dev nD) (t : Xfer) : GSem nD τ sig := ((c : Thread nD τ), .dma (recvS t))

theorem ksem_injective : Function.Injective ksem := by decide +kernel

/-- The key of a semaphore, if it is one of the protocol's. -/
def keyOf (s : SemLoc sig) : Option Key := (none :: (order.flatMap fun t => [some (t, false), some (t, true)])).find? fun k => decide (ksem k = s)

theorem keyOf_ksem : ∀ k : Key, keyOf (ksem k) = some k := by decide +kernel
theorem keyOf_bar : keyOf (.reg barS) = some none := keyOf_ksem none
theorem keyOf_send (t : Xfer) : keyOf (.dma (sendS t)) = some (some (t, false)) := keyOf_ksem (some (t, false))
theorem keyOf_recv (t : Xfer) : keyOf (.dma (recvS t)) = some (some (t, true)) := keyOf_ksem (some (t, true))

/-- What a transfer of a 512 × 256 block counts on a semaphore. -/
abbrev N : ℕ := (psA : Memref sig .tc .vmem S512x256 .f32).view.dmaCredit
theorem N_pos : 0 < N := View.dmaCredit_pos _ (by decide)
theorem credit_src (t : Xfer) : (srcM t).view.dmaCredit = N := by cases t <;> rfl
theorem credit_dst (t : Xfer) : (dstM t).view.dmaCredit = N := by cases t <;> rfl

/-! ## Contents -/

section Contents

variable (x : Dev nD → Vec F S1024x1024 .f32) (dy : Dev nD → Vec F S1024x4096 .f32)

/-- A device's own two column blocks of its rows of `dy`, -/
def colsA (c : Dev nD) : Vec F S1024x256 .f32 :=
  dyM.view.readAt (Elt F) (Rect.unit (s := S1024x4096) (k0_off1 c) S1024x256.size (k0_off1_inb c)).toLoadRect (dy c)
def colsB (c : Dev nD) : Vec F S1024x256 .f32 :=
  dyM.view.readAt (Elt F) (Rect.unit (s := S1024x4096) (k0_off2 c) S1024x256.size (k0_off2_inb c)).toLoadRect (dy c)
/-- the columns of its rows of `x` that its partner's part of the result needs, -/
def xPeer (c : Dev nD) : Vec F S1024x512 .f32 :=
  xM.view.readAt (Elt F) (Rect.unit (s := S1024x1024) (k0_off3 c) S1024x512.size (k0_off3_inb c)).toLoadRect (x c)
/-- and those its own part needs. -/
def xMine (c : Dev nD) : Vec F S1024x512 .f32 :=
  xM.view.readAt (Elt F) (Rect.unit (s := S1024x1024) (k0_off4 c) S1024x512.size (k0_off4_inb c)).toLoadRect (x c)

/-- The partner's part of the two products over a device's rows; -/
def partA (c : Dev nD) : FVec F S512x256 .f32 := k0_pay5 (colsA dy c) (xPeer x c)
def partB (c : Dev nD) : FVec F S512x256 .f32 := k0_pay6 (colsB dy c) (xPeer x c)
/-- the finished block: the device's own part and what its partner computed for it. -/
def accA (c : Dev nD) : FVec F S512x256 .f32 := k0_pay7 (k0_pay1 (colsA dy c)) (k0_pay4 (xMine x c)) (partA x dy (across c))
def accB (c : Dev nD) : FVec F S512x256 .f32 :=
  k0_pay11 (k0_pay10 (k0_pay2 (colsB dy c)) (k0_pay4 (xMine x c))) (partB x dy (across c))

/-- The finished block of a half. -/
def acc (s : Fin 2) (c : Dev nD) : FVec F S512x256 .f32 := if s = 0 then accA x dy c else accB x dy c

/-- What device `c` sends through transfer `t`: hop `h` the block finished `h` places behind. -/
def val : Xfer → Dev nD → FVec F S512x256 .f32
  | .ya, c => partA x dy c
  | .yb, c => partB x dy c
  | .ra h, c => accA x dy (left^[h.val] c)
  | .la h, c => accA x dy (right^[h.val] c)
  | .rb h, c => accB x dy (left^[h.val] c)
  | .lb h, c => accB x dy (right^[h.val] c)

/-! ## The resource algebra and the schedule -/

abbrev UX : Type := URounds (GSem nD τ sig) Side
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

/-- The share of a transfer's source that travels with it: what is sent along a ring stays readable meanwhile. -/
def shr : Xfer → PosShare TreeShare
  | .ya => fullShare | .yb => fullShare | _ => fullShare.left

/-- The blocks device `d` offers the neighbour that sees it on side `s`: those that neighbour's transfers fill. -/
def offer (s : Side) (d : Dev nD) : sProp 𝕄 := bigSep (Finset.univ.filter fun t => side t = s) fun t => held d (dstM t)

/-- The payload of a cell's duty. -/
def pay (c : Dev nD) (k : Option Key) (s : Side) : sProp 𝕄 := match k with
  | none => iprop(emp)
  | some none => offer s (nbr s c)
  | some (some (t, false)) => owns (c : Thread nD τ) (srcM t) (shr t) (val x dy t c)
  | some (some (t, true)) => owns (c : Thread nD τ) (dstM t) fullShare (val x dy t (src t c))

/-- One round: the barrier's three duties of one unit, one for each side it comes from, and each transfer cell's one duty. -/
def sched : Rounds.Schedule (GSem nD τ sig) Side 𝕄 where
  duties g r := if r = 0 ∧ g.1.2 = .tc then (match keyOf g.2 with | none => ∅ | some none => Finset.univ | some (some _) => {.across}) else ∅
  unitless _ := False
  amount g _ _ := match keyOf g.2 with | some (some _) => N | _ => 1
  payload g _ s := pay x dy g.1.1 (keyOf g.2) s
  amount_pos g _ _ _ := by
    split
    · exact N_pos
    · exact Nat.one_pos

instance held_storable (c : Dev nD) {s : Shape} {e : EltTy} (m : Memref sig .tc .vmem s e) :
    BI.Storable (upEmb : UEmb _ 𝕄) (held (F := F) c m) := by unfold held; infer_instance

instance sched_storable (g : GSem nD τ sig) (r : ℕ) (s : Side) : BI.Storable (upEmb : UEmb _ 𝕄) ((sched x dy).payload g r s) := by
  show BI.Storable upEmb (pay x dy g.1.1 (keyOf g.2) s)
  unfold pay offer
  split <;> infer_instance

section Cells
variable (c : Dev nD) (t : Xfer)

theorem duties_bar : (sched x dy).duties (barCell c) 0 = Finset.univ := by
  dsimp only [sched]; rw [if_pos ⟨rfl, rfl⟩, keyOf_bar]
theorem duties_send : (sched x dy).duties (sendCell c t) 0 = {.across} := by
  dsimp only [sched]; rw [if_pos ⟨rfl, rfl⟩, keyOf_send]
theorem duties_recv : (sched x dy).duties (recvCell c t) 0 = {.across} := by
  dsimp only [sched]; rw [if_pos ⟨rfl, rfl⟩, keyOf_recv]
theorem duties_later (g : GSem nD τ sig) : ∀ r, 1 ≤ r → (sched x dy).duties g r = ∅ :=
  fun r hr => by dsimp only [sched]; rw [if_neg fun h => by omega]

theorem amount_bar (s : Side) : (sched x dy).amount (barCell c) 0 s = 1 := by dsimp only [sched]; rw [keyOf_bar]
theorem amount_send (s : Side) : (sched x dy).amount (sendCell c t) 0 s = N := by dsimp only [sched]; rw [keyOf_send]
theorem amount_recv (s : Side) : (sched x dy).amount (recvCell c t) 0 s = N := by dsimp only [sched]; rw [keyOf_recv]

theorem expect_bar : (sched x dy).expect (barCell c) 0 = 3 := by
  unfold Schedule.expect Schedule.amountOf
  rw [duties_bar, Finset.sum_congr rfl fun s _ => amount_bar x dy c s, Finset.sum_const, Finset.card_univ]; rfl
theorem expect_send : (sched x dy).expect (sendCell c t) 0 = N := by
  unfold Schedule.expect Schedule.amountOf; rw [duties_send, Finset.sum_singleton, amount_send]
theorem expect_recv : (sched x dy).expect (recvCell c t) 0 = N := by
  unfold Schedule.expect Schedule.amountOf; rw [duties_recv, Finset.sum_singleton, amount_recv]

theorem payload_bar (s : Side) : (sched x dy).payload (barCell c) 0 s = offer s (nbr s c) := by
  dsimp only [sched]; rw [keyOf_bar]; rfl
theorem payload_send (s : Side) :
    (sched x dy).payload (sendCell c t) 0 s = owns (c : Thread nD τ) (srcM t) (shr t) (val x dy t c) := by
  dsimp only [sched]; rw [keyOf_send]; rfl
theorem payload_recv (s : Side) :
    (sched x dy).payload (recvCell c t) 0 s = owns (c : Thread nD τ) (dstM t) fullShare (val x dy t (src t c)) := by
  dsimp only [sched]; rw [keyOf_recv]; rfl

theorem rest_bar : bigSep ((sched x dy).duties (barCell c) 0 \ ∅) (fun s => (sched x dy).payload (barCell c) 0 s)
    = bigSep Finset.univ fun s => (offer s (nbr s c) : sProp 𝕄) := by
  rw [Finset.sdiff_empty, duties_bar]; exact bigSep_congr fun s _ => payload_bar x dy c s
theorem rest_send : bigSep ((sched x dy).duties (sendCell c t) 0 \ ∅) (fun s => (sched x dy).payload (sendCell c t) 0 s)
    = owns (c : Thread nD τ) (srcM t) (shr t) (val x dy t c) := by
  rw [Finset.sdiff_empty, duties_send, bigSep_singleton, payload_send]
theorem rest_recv : bigSep ((sched x dy).duties (recvCell c t) 0 \ ∅) (fun s => (sched x dy).payload (recvCell c t) 0 s)
    = owns (c : Thread nD τ) (dstM t) fullShare (val x dy t (src t c)) := by
  rw [Finset.sdiff_empty, duties_recv, bigSep_singleton, payload_recv]

/-- What the three neighbours offer is the sixteen blocks the device's transfers fill. -/
theorem offers : (bigSep Finset.univ fun s => (offer s (nbr s c) : sProp 𝕄)) ⊢ bigSep Finset.univ fun t => held (tgt t c) (dstM t) := by
  have h : (bigSep Finset.univ fun s => (offer s (nbr s c) : sProp 𝕄))
      = bigSep Finset.univ fun s => bigSep (Finset.univ.filter fun t => side t = s) fun t => held (tgt t c) (dstM t) :=
    bigSep_congr fun s _ => by
      unfold offer
      exact bigSep_congr fun t ht => by rw [← (Finset.mem_filter.mp ht).2]
  rw [h]
  exact (BI.bigSep_biUnion _ _).trans (Entails.of_eq (congrArg (fun S => bigSep S _) (by ext t; simp)))

end Cells

end Contents

/-! ## What a device owes, and the levels -/

/-- The cell a due is paid on, and how much: a signal to a neighbour's barrier, or a transfer. -/
abbrev Due : Type := Side ⊕ Xfer
def dueKey : Due → Key
  | .inl _ => none | .inr t => some (t, true)
def dueSide : Due → Side
  | .inl s => s | .inr t => side t
def dueAmt : Due → ℕ
  | .inl _ => 1 | .inr _ => N

/-- What a list of dues of device `c` comes to, the first due in front. -/
def owing (c : Dev nD) : List Due → CellTallies nD τ sig Unit
  | [] => 0
  | d :: l => owing c l + tallyAt (kcell (nbr (dueSide d) c) (dueKey d)) () (dueAmt d)

/-- The transfers still to be made, as dues. -/
abbrev xdue (l : List Xfer) : List Due := l.map .inr

/-- A device's dues in the order it pays them. -/
def dues : List Due := sides.map .inl ++ xdue order

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The level of a transfer's receive cell. -/
def lvX : Xfer → ℕ
  | .ya => 2 | .yb => 2 | .ra h => 3 + h.val | .la h => 3 + h.val | .rb h => 3 + h.val | .lb h => 3 + h.val
def lvK : Option Key → ℕ
  | none => 0 | some none => 1 | some (some (_, false)) => 0 | some (some (t, true)) => lvX t
def lv (g : GSem nD τ sig) (_ : Unit) : ℕ := lvK (keyOf g.2)

theorem lv_kcell (c : Dev nD) (k : Key) (u : Unit) : lv (kcell c k) u = lvK (some k) := by
  unfold lv kcell; rw [keyOf_ksem]

theorem owing_pos {c : Dev nD} {l : List Due} {g : GSem nD τ sig} {u : Unit} (h : 0 < owing c l g u) :
    ∃ d ∈ l, g = kcell (nbr (dueSide d) c) (dueKey d) := by
  induction l with
  | nil => exact absurd h (Nat.lt_irrefl 0)
  | cons d l ih =>
    unfold owing at h
    rw [Pi.add_apply, Finsupp.add_apply, tallyAt_apply] at h
    by_cases hg : g = kcell (nbr (dueSide d) c) (dueKey d) ∧ u = ()
    · exact ⟨d, List.mem_cons_self, hg.1⟩
    · rw [if_neg hg] at h
      obtain ⟨d', hd', e⟩ := ih h
      exact ⟨d', List.mem_cons_of_mem _ hd', e⟩

local notation "𝕄" => MT nD τ sig Unit (Elt F) ℕ UU ℕ

/-- The levels, as everyone may know them. -/
def levels : sProp 𝕄 := levAts L lv
instance levels_persistent : BI.Persistent (levels : sProp 𝕄) := by unfold levels; infer_instance

/-- A device may wait on a semaphore below everything it still owes. -/
theorem mayWait (c : Dev nD) (s : SemLoc sig) (l : List Due) (h : ∀ d ∈ l, lvK (keyOf s) < lvK (some (dueKey d))) :
    (levels : sProp 𝕄) ⊢ MayWait (c : Thread nD τ) s () (owing c l) := by
  unfold levels
  exact MayOwe.of_cut (L := L) (lev := lv) (lvK (keyOf s))
    (fun p hp => by rw [Finset.mem_singleton.mp hp, L_tc]; exact Finset.mem_singleton_self _)
    (fun g u hg => by obtain ⟨d, -, rfl⟩ := owing_pos hg; exact Finset.mem_singleton_self _)
    (fun p hp => by rw [Finset.mem_singleton.mp hp]; rfl)
    (fun g u hg => by obtain ⟨d, hd, rfl⟩ := owing_pos hg; rw [lv_kcell]; exact h d hd)

end Cert.KernelIdeal.Reduce

end
-- ==== Proof.KernelIdeal.Steps.lean ====
/-
# The steps of the body

Each operation of the kernel's body as a rule over the protocol's resources, stated once for every transfer, slot and
device: a transfer along or across, a wait for one, a load or a store of a block, and a store of a block of the result.
-/
module

public import proofs.«01_k».proof.Proof.KernelIdeal.Table

@[expose] public section

noncomputable section

namespace Cert.KernelIdeal.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable (x : Dev nD → Vec F S1024x1024 .f32) (dy : Dev nD → Vec F S1024x4096 .f32)
variable (K : Dev nD × Key → ℕ)

/-! ## The resources -/

/-- What everyone may know: each cell's invariant, -/
def invs : sProp 𝕄 := bigSep Finset.univ fun k : Dev nD × Key => cellInv ER (sched x dy) (K k) (kcell k.1 k.2)
/-- that each cell is at its first round, -/
def reach : sProp 𝕄 := bigSep Finset.univ fun k : Dev nD × Key => reached ER (kcell k.1 k.2) 0
instance invs_persistent : BI.Persistent (invs x dy K) := by unfold invs; infer_instance
instance reach_persistent : BI.Persistent (reach : sProp 𝕄) := by unfold reach; infer_instance

/-- and the levels. -/
def book : sProp 𝕄 := iprop(invs x dy K ∗ reach ∗ levels)
instance book_persistent : BI.Persistent (book x dy K) := by unfold book; infer_instance

theorem book_inv (c : Dev nD) (k : Key) : book x dy K ⊢ cellInv ER (sched x dy) (K (c, k)) (kcell c k) :=
  sep_elim_left.trans (BI.bigSep_elim (Φ := fun k : Dev nD × Key => cellInv ER (sched x dy) (K k) (kcell k.1 k.2)) (Finset.mem_univ (c, k)))
theorem book_reached (c : Dev nD) (k : Key) : book x dy K ⊢ (reached ER (kcell c k) 0 : sProp 𝕄) :=
  sep_elim_right.trans (sep_elim_left.trans (BI.bigSep_elim (Φ := fun k : Dev nD × Key => reached ER (kcell k.1 k.2) 0) (Finset.mem_univ (c, k))))
theorem book_levels : book x dy K ⊢ (levels : sProp 𝕄) := by
  unfold book; iintro ⟨-, -, H⟩; iexact H

set_option maxRecDepth 100000 in
theorem book_wait (c : Dev nD) (s : SemLoc sig) (l : List Due) (h : ∀ d ∈ l, lvK (keyOf s) < lvK (some (dueKey d))) :
    book x dy K ⊢ MayWait (c : Thread nD τ) s () (owing c l) := (book_levels x dy K).trans (mayWait c s l h)

/-- The cells a device has closed, at zero. -/
def zeros (c : Dev nD) : List Key → sProp 𝕄
  | [] => iprop(emp)
  | k :: z => iprop(semVal (kcell c k) 0 ∗ zeros c z)

theorem zeros_cons (c : Dev nD) (k : Key) (z : List Key) : iprop(semVal (kcell c k) 0 ∗ zeros c z) ⊢ (zeros c (k :: z) : sProp 𝕄) := .rfl

/-- Where a device stands: the dues left, and the cells it is done with. -/
def at_ (c : Dev nD) (l : List Due) (z : List Key) : sProp 𝕄 := iprop((∃ W, owes (c : Thread nD τ) (owing c l) W) ∗ zeros c z)

/-- What it takes to start transfer `t`, besides the block it reads. -/
def ready (t : Xfer) (c : Dev nD) : sProp 𝕄 :=
  iprop(held (tgt t c) (dstM t) ∗ dutyTok ER (sendCell c t) 0 .across ∗ dutyTok ER (recvCell (tgt t c) t) 0 .across ∗ atPos ER (sendCell c t) 0 ∅ 0)
/-- A transfer started, its send semaphore not yet waited on. -/
def sent (t : Xfer) (c : Dev nD) : sProp 𝕄 := iprop(cred (tallyAt (sendCell c t) () N) ∗ atPos ER (sendCell c t) 0 ∅ 0)
/-- A transfer to come. -/
def due (t : Xfer) (c : Dev nD) : sProp 𝕄 := iprop(cred (tallyAt (recvCell c t) () N) ∗ atPos ER (recvCell c t) 0 ∅ 0)

section Steps

variable (c : Dev nD)
variable {α : Type} {Q : α → sProp (MT nD τ sig Unit (Elt F) ℕ UU ℕ)} {k : PUnit → Prog (TpuEff nD τ sig (Elt F) Λ₀ .tc) α}

/-! ## Transfers -/

/-- Starting transfer `t`: the share of its source goes with it, and the due is paid. -/
theorem send_step (t : Xfer) {l : List Due} {z : List Key} {n : Dev nD} {ss rs : DmaSem sig} {Ms Md : Memref sig .tc .vmem S512x256 .f32}
    (hn : n = tgt t c) (hs : ss = sendS t) (hr : rs = recvS t) (hS : Ms = srcM t) (hD : Md = dstM t)
    {hsc : (Md : Memref sig (Dev.tc n : Thread nD τ).2.kind .vmem S512x256 .f32).view.ref.isScScratch = false}
    {hsrc : Ms.view.WordExact} {hdst : Md.view.WordExact}
    {hsem : DmaTarget.Typed .vmem (.dma rs) (.remote (Dev.tc n : Thread nD τ) Md (.dma ss) hsc)} :
    book x dy K ⊢ iprop(owns (c : Thread nD τ) (srcM t) (shr t) (val x dy t c) -∗ ready t c -∗ at_ c (.inr t :: l) z
      -∗ ((sent t c ∗ at_ c l z) -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma Ms (.remote (Dev.tc n : Thread nD τ) Md (.dma ss) hsc) (.dma rs) hsrc hdst hsem) k) Q) := by
  subst hn hs hr hS hD
  unfold owns ready at_ sent
  iintro #HB ⟨%f, %hf, Hs⟩ ⟨Hd, Ht1, Ht2, Hat⟩ ⟨⟨%W, HO⟩, Hz⟩ Hk
  ihave Hd' := (held_eq (tgt t c) (dstM t)).1 $$ Hd
  icases Hd' with ⟨%g, Hd⟩
  iapply (Rounds.wp_send_pointsTo 𝒱₀ ER (sched x dy) (c : Thread nD τ) none (κ₁ := K (c, some (t, false))) (κ₂ := K (tgt t c, some (t, true)))
    (r₁ := 0) (r₂ := 0) (d₁ := .across) (d₂ := .across) (fd := g) (fs := f) (q := shr t)
    (by rw [duties_send]; exact Finset.mem_singleton_self _) (by rw [duties_recv]; exact Finset.mem_singleton_self _)
    () () N (show (dstM t).view.amount (.dma (recvS t)) = N from credit_dst t) (amount_send x dy c t .across) (amount_recv x dy (tgt t c) t .across) (owing c l) rfl (W := W)
    (by rw [payload_send, ← hf]; exact owns_intro _ _ _ _)
    (by
      rw [payload_recv, src_tgt, ← hf]
      refine (owns_intro _ _ _ _).trans (Entails.of_eq ?_)
      rw [View.read_write_univ])) $$ [Hs Hd HO Ht1 Ht2]
  · isplitr; · iapply (book_inv x dy K c (some (t, false))); iexact HB
    isplitr; · iapply (book_inv x dy K (tgt t c) (some (t, true))); iexact HB
    isplitl [Hs]; · iexact Hs
    isplitl [Hd]; · iexact Hd
    isplitl [HO]; · iexact HO
    isplitl [Ht1]; · iexact Ht1
    isplitr; · iapply (book_reached x dy K c (some (t, false))); iexact HB
    isplitl [Ht2]; · iexact Ht2
    iapply (book_reached x dy K (tgt t c) (some (t, true))); iexact HB
  iintro ⟨Hc, HO⟩
  iapply Hk
  isplitl [Hc Hat]
  · isplitl [Hc] <;> iassumption
  isplitl [HO]
  · iexists W; iexact HO
  iexact Hz

/-- Starting a transfer across, the `n`-th in order: its source goes with it. -/
theorem cross_send (t : Xfer) (i : ℕ) (hi : order.drop i = t :: order.drop (i + 1)) {z : List Key} {n : Dev nD} {ss rs : DmaSem sig}
    {Ms Md : Memref sig .tc .vmem S512x256 .f32} (ht : shr t = fullShare)
    (hn : n = tgt t c) (hs : ss = sendS t) (hr : rs = recvS t) (hS : Ms = srcM t) (hD : Md = dstM t)
    {hsc : (Md : Memref sig (Dev.tc n : Thread nD τ).2.kind .vmem S512x256 .f32).view.ref.isScScratch = false}
    {hsrc : Ms.view.WordExact} {hdst : Md.view.WordExact}
    {hsem : DmaTarget.Typed .vmem (.dma rs) (.remote (Dev.tc n : Thread nD τ) Md (.dma ss) hsc)} :
    book x dy K ⊢ iprop(owns (c : Thread nD τ) (srcM t) fullShare (val x dy t c) -∗ ready t c -∗ at_ c (xdue (order.drop i)) z
      -∗ ((sent t c ∗ at_ c (xdue (order.drop (i + 1))) z) -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma Ms (.remote (Dev.tc n : Thread nD τ) Md (.dma ss) hsc) (.dma rs) hsrc hdst hsem) k) Q) := by
  rw [hi, ← ht]
  exact send_step x dy K c t (l := xdue (order.drop (i + 1))) hn hs hr hS hD

/-- Starting a transfer along a ring, the `n`-th in order: half of its source stays behind, to be read. -/
theorem ring_send (t : Xfer) (i : ℕ) (hi : order.drop i = t :: order.drop (i + 1)) {z : List Key} {n : Dev nD} {ss rs : DmaSem sig}
    {Ms Md : Memref sig .tc .vmem S512x256 .f32} (ht : shr t = fullShare.left)
    (hn : n = tgt t c) (hs : ss = sendS t) (hr : rs = recvS t) (hS : Ms = srcM t) (hD : Md = dstM t)
    {hsc : (Md : Memref sig (Dev.tc n : Thread nD τ).2.kind .vmem S512x256 .f32).view.ref.isScScratch = false}
    {hsrc : Ms.view.WordExact} {hdst : Md.view.WordExact}
    {hsem : DmaTarget.Typed .vmem (.dma rs) (.remote (Dev.tc n : Thread nD τ) Md (.dma ss) hsc)} :
    book x dy K ⊢ iprop(owns (c : Thread nD τ) (srcM t) fullShare (val x dy t c) -∗ ready t c -∗ at_ c (xdue (order.drop i)) z
      -∗ ((owns (c : Thread nD τ) (srcM t) fullShare.right (val x dy t c) ∗ sent t c ∗ at_ c (xdue (order.drop (i + 1))) z)
          -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma Ms (.remote (Dev.tc n : Thread nD τ) Md (.dma ss) hsc) (.dma rs) hsrc hdst hsem) k) Q) := by
  rw [hi]
  iintro #HB Hs Hr Ho Hk
  ihave Hs' := (owns_halves (c : Thread nD τ) (srcM t) fullShare (val x dy t c)).1 $$ Hs
  icases Hs' with ⟨Hl, Hh⟩
  rw [← ht]
  iapply (send_step x dy K c t (l := xdue (order.drop (i + 1))) hn hs hr hS hD) $$ HB Hl Hr [Ho]
  · iexact Ho
  iintro ⟨Ht, Ho⟩
  iapply Hk
  isplitl [Hh]; · iexact Hh
  isplitl [Ht] <;> iassumption

/-- Waiting for transfer `t` to arrive: the block it fills, at what was sent. -/
theorem recv_step (t : Xfer) {l : List Due} {z : List Key} {M : Memref sig .tc .vmem S512x256 .f32} {X : FVec F S512x256 .f32}
    (hM : dstM t = M) (hX : val x dy t (src t c) = X) (hl : ∀ d ∈ l, lvX t < lvK (some (dueKey d)))
    {rs : DmaSem sig} {Ma Mb : Memref sig .tc .vmem S512x256 .f32} (hr : rs = recvS t) (hN : Mb.view.dmaCredit = N)
    {ha : Ma.view.WordExact} {hb : Mb.view.WordExact} :
    book x dy K ⊢ iprop(due t c -∗ at_ c l z
      -∗ ((owns (c : Thread nD τ) M fullShare X ∗ at_ c l (some (t, true) :: z))
          -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 rs Ma Mb ha hb) k) Q) := by
  subst hM hX hr
  unfold due at_
  iintro #HB ⟨Hc, Hat⟩ ⟨⟨%W, HO⟩, Hz⟩ Hk
  iapply (Rounds.wp_wait_rest_token 𝒱₀ ER (sched x dy) (c : Thread nD τ) none (κ := K (c, some (t, true)))
      (wpE_waitDma2_eq 𝒱₀ (c : Thread nD τ) none Set.univ) (Set.mem_univ _) () (O := owing c l) (W := W) (R := 0) (m := 0) (T := ∅)
      (by rw [Nat.zero_add, expect_recv, hN])) $$ [Hc HO Hat]
  · isplitr; · iapply (book_inv x dy K c (some (t, true))); iexact HB
    isplitl [Hc]; · first | iexact Hc | (rw [hN]; iexact Hc)
    isplitl [HO]; · iexact HO
    isplitr
    · iapply (book_wait x dy K c (.dma (recvS t)) l (by rw [keyOf_recv]; exact hl)); iexact HB
    iexact Hat
  iintro ⟨HO, Hat, -, Hp⟩
  ihave Hp' := (Entails.of_eq (rest_recv x dy c t)) $$ Hp
  imod (Rounds.cell_close ER (sched x dy) (Set.mem_univ (K (c, some (t, true)))) (fun h => h) (R := 0 + 1) (duties_later x dy (recvCell c t))) $$ [Hat] with Hv
  · isplitr; · iapply (book_inv x dy K c (some (t, true))); iexact HB
    iexact Hat
  iapply Hk
  isplitl [Hp']; · iexact Hp'
  isplitl [HO]; · iexists _; iexact HO
  iapply (zeros_cons c _ z)
  isplitl [Hv]; · iexact Hv
  iexact Hz

/-- Waiting for transfer `t` to have been read: the share that travelled comes back. -/
theorem sent_step (t : Xfer) {z : List Key} {ss : DmaSem sig} {Ma Mb : Memref sig .tc .vmem S512x256 .f32} (hs : ss = sendS t) (hN : Mb.view.dmaCredit = N)
    {ha : Ma.view.WordExact} {hb : Mb.view.WordExact} :
    book x dy K ⊢ iprop(sent t c -∗ at_ c [] z
      -∗ ((owns (c : Thread nD τ) (srcM t) (shr t) (val x dy t c) ∗ at_ c [] (some (t, false) :: z))
          -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 ss Ma Mb ha hb) k) Q) := by
  subst hs
  unfold sent at_
  iintro #HB ⟨Hc, Hat⟩ ⟨⟨%W, HO⟩, Hz⟩ Hk
  iapply (Rounds.wp_wait_rest_token 𝒱₀ ER (sched x dy) (c : Thread nD τ) none (κ := K (c, some (t, false)))
      (wpE_waitDma2_eq 𝒱₀ (c : Thread nD τ) none Set.univ) (Set.mem_univ _) () (O := owing c []) (W := W) (R := 0) (m := 0) (T := ∅)
      (by rw [Nat.zero_add, expect_send, hN])) $$ [Hc HO Hat]
  · isplitr; · iapply (book_inv x dy K c (some (t, false))); iexact HB
    isplitl [Hc]; · first | iexact Hc | (rw [hN]; iexact Hc)
    isplitl [HO]; · iexact HO
    isplitr
    · unfold owing; rw [MayWait_zero]; iempintro
    iexact Hat
  iintro ⟨HO, Hat, -, Hp⟩
  ihave Hp' := (Entails.of_eq (rest_send x dy c t)) $$ Hp
  imod (Rounds.cell_close ER (sched x dy) (Set.mem_univ (K (c, some (t, false)))) (fun h => h) (R := 0 + 1) (duties_later x dy (sendCell c t))) $$ [Hat] with Hv
  · isplitr; · iapply (book_inv x dy K c (some (t, false))); iexact HB
    iexact Hat
  iapply Hk
  isplitl [Hp']; · iexact Hp'
  isplitl [HO]; · iexists _; iexact HO
  iapply (zeros_cons c _ z)
  isplitl [Hv]; · iexact Hv
  iexact Hz

/-- Along a ring: the source is whole again. -/
theorem ring_sent (t : Xfer) (ht : shr t = fullShare.left) {z : List Key} {ss : DmaSem sig} {Ma Mb : Memref sig .tc .vmem S512x256 .f32}
    (hs : ss = sendS t) (hN : Mb.view.dmaCredit = N) {ha : Ma.view.WordExact} {hb : Mb.view.WordExact} :
    book x dy K ⊢ iprop(sent t c -∗ owns (c : Thread nD τ) (srcM t) fullShare.right (val x dy t c) -∗ at_ c [] z
      -∗ ((held c (srcM t) ∗ at_ c [] (some (t, false) :: z))
          -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 ss Ma Mb ha hb) k) Q) := by
  iintro #HB Ht Hr Ho Hk
  iapply (sent_step x dy K c t hs hN) $$ HB Ht Ho
  iintro ⟨Hl, Ho⟩
  rw [ht]
  iapply Hk
  isplitl [Hl Hr]
  · iapply (held_intro c (srcM t) (val x dy t c))
    iapply (owns_halves (c : Thread nD τ) (srcM t) fullShare (val x dy t c)).2
    isplitl [Hl] <;> iassumption
  iexact Ho

/-! ## The barrier -/

/-- A signal to the neighbour on side `s`: it is handed the blocks it will fill here. -/
theorem signal_step (s : Side) {l : List Due} {z : List Key} {n : Dev nD} (hn : n = nbr s c) :
    book x dy K ⊢ iprop(dutyTok ER (barCell (nbr s c)) 0 (opp s) -∗ offer (opp s) c
      -∗ at_ c (.inl s :: l) z
      -∗ (at_ c l z -∗ wp frame (wpE (defs₀ (F := F)) 𝒱₀ (c : Thread nD τ) none) Set.univ (k ⟨⟩) Q)
      -∗ wp frame (wpE (defs₀ (F := F)) 𝒱₀ (c : Thread nD τ) none) Set.univ (.op (.semSignal (Dev.tc n : Thread nD τ) barS 1) k) Q) := by
  subst hn
  unfold at_
  iintro #HB Ht Hp ⟨⟨%W, HO⟩, Hz⟩ Hk
  iapply (Rounds.wp_signal 𝒱₀ ER (sched x dy) (c : Thread nD τ) none (dst := (nbr s c : Thread nD τ)) (κ := K (nbr s c, none))
      (d := opp s) (by rw [duties_bar]; exact Finset.mem_univ _) (amount_bar x dy (nbr s c) (opp s)) () (owing c l) rfl (W := W)) $$ [HO Ht Hp]
  · isplitr; · iapply (book_inv x dy K (nbr s c) none); iexact HB
    isplitl [HO]; · iexact HO
    isplitl [Ht]; · iexact Ht
    isplitl [Hp]; · rw [payload_bar, nbr_opp']; iexact Hp
    iapply (book_reached x dy K (nbr s c) none); iexact HB
  iintro HO
  iapply Hk
  isplitl [HO]; · iexists W; iexact HO
  iexact Hz

/-- The wait for the three neighbours: the blocks the device's transfers fill. -/
theorem barrier_step {l : List Due} {z : List Key} (hl : ∀ d ∈ l, 1 < lvK (some (dueKey d))) :
    book x dy K ⊢ iprop(cred (tallyAt (barCell c) () 3) -∗ atPos ER (barCell c) 0 ∅ 0 -∗ at_ c l z
      -∗ (((bigSep Finset.univ fun t => held (tgt t c) (dstM t)) ∗ at_ c l (none :: z))
          -∗ wp frame (wpE (defs₀ (F := F)) 𝒱₀ (c : Thread nD τ) none) Set.univ (k ⟨⟩) Q)
      -∗ wp frame (wpE (defs₀ (F := F)) 𝒱₀ (c : Thread nD τ) none) Set.univ (.op (.semWait barS 3) k) Q) := by
  unfold at_
  iintro #HB Hc Hat ⟨⟨%W, HO⟩, Hz⟩ Hk
  iapply (Rounds.wp_wait_rest_token 𝒱₀ ER (sched x dy) (c : Thread nD τ) none (κ := K (c, none))
      (wpE_semWait_eq 𝒱₀ (c : Thread nD τ) none Set.univ) (Set.mem_univ _) () (O := owing c l) (W := W) (R := 0) (m := 0) (T := ∅)
      (by rw [Nat.zero_add, expect_bar])) $$ [Hc HO Hat]
  · isplitr; · iapply (book_inv x dy K c none); iexact HB
    isplitl [Hc]; · iexact Hc
    isplitl [HO]; · iexact HO
    isplitr
    · iapply (book_wait x dy K c (.reg barS) l (by rw [keyOf_bar]; exact hl)); iexact HB
    iexact Hat
  iintro ⟨HO, Hat, -, Hp⟩
  ihave Hp' := (Entails.of_eq (rest_bar x dy c)) $$ Hp
  ihave Hp := (offers c) $$ Hp'
  imod (Rounds.cell_close ER (sched x dy) (Set.mem_univ (K (c, none))) (fun h => h) (R := 0 + 1) (duties_later x dy (barCell c))) $$ [Hat] with Hv
  · isplitr; · iapply (book_inv x dy K c none); iexact HB
    iexact Hat
  iapply Hk
  isplitl [Hp]; · iexact Hp
  isplitl [HO]; · iexists _; iexact HO
  iapply (zeros_cons c _ z)
  isplitl [Hv]; · iexact Hv
  iexact Hz

end Steps

/-! ## Blocks -/

section Blocks

variable (c : Dev nD) {α : Type} {Q : α → sProp (MT nD τ sig Unit (Elt F) ℕ UU ℕ)}

omit [FloatOps F] in
theorem origin : (![0, 0] : Fin 2 → Nat) = fun _ => 0 := funext fun a => by fin_cases a <;> rfl

/-- The rectangle of a whole block. -/
abbrev blockRect : Rect S512x256 := Rect.unit (s := S512x256) ![0, 0] S512x256.size inb_S512x256_S512x256_0_0

/-- Loading a slot through its stack: what the slot holds, as a slab. -/
theorem slot_get {n : ℕ} {M : Memref sig .tc .vmem (Stack n) .f32} (j : Fin n) {m : Memref sig .tc .vmem S512x256 .f32} (hm : m = slot M j)
    {q : PosShare TreeShare} {X : FVec F S512x256 .f32} {hl : M.view.LoadsAt (slotRect n j).toLoadRect}
    {k : Vec F S1x512x256 .f32 → Prog (TpuEff nD τ sig (Elt F) Λ₀ .tc) α} :
    owns (c : Thread nD τ) m q X ⊢ iprop((∀ v, ⌜shapeCast S512x256 v numel_slot = X⌝ -∗ owns (c : Thread nD τ) m q X
        -∗ wp frame (wpE (defs₀ (F := F)) 𝒱₀ (c : Thread nD τ) none) Set.univ (k v) Q)
      -∗ wp frame (wpE (defs₀ (F := F)) 𝒱₀ (c : Thread nD τ) none) Set.univ (.op (.load M (slotRect n j).toLoadRect hl) k) Q) := by
  subst hm
  unfold owns
  iintro ⟨%f, %hf, H⟩ Hk
  have hS : M.view.setOn (slotRect n j).toLoadRect.set ⊆ slotSet M j := by
    rw [slotSet_eq]; exact subset_rfl
  iapply (wp_load 𝒱₀ (c : Thread nD τ) none Set.univ (m := M) (S := slotSet M j) (q := q) (f := f) hS) $$ [H]
  · iexact H
  iintro H
  iapply Hk
  · ipureintro; exact hf
  iexists f
  isplitr; · ipureintro; exact hf
  iexact H

/-- Storing a slot through its stack, whatever it held. -/
theorem slot_put {n : ℕ} {M : Memref sig .tc .vmem (Stack n) .f32} (j : Fin n) {m : Memref sig .tc .vmem S512x256 .f32} (hm : m = slot M j)
    {w : Vec F S1x512x256 .f32} {X : FVec F S512x256 .f32} (hw : shapeCast S512x256 w numel_slot = X)
    {hl : M.view.LoadsAt (slotRect n j).toLoadRect} {hx : (M.access (slotRect n j)).Stores Finset.univ}
    {hu : (Finset.univ : Finset (slotRect n j).shape.Idx) = Finset.univ ∨ ∀ a, (slotRect n j).stride a = 1}
    {k : PUnit → Prog (TpuEff nD τ sig (Elt F) Λ₀ .tc) α} :
    held c m ⊢ iprop((owns (c : Thread nD τ) m fullShare X -∗ wp frame (wpE (defs₀ (F := F)) 𝒱₀ (c : Thread nD τ) none) Set.univ (k ⟨⟩) Q)
      -∗ wp frame (wpE (defs₀ (F := F)) 𝒱₀ (c : Thread nD τ) none) Set.univ
          (.op (.load M (slotRect n j).toLoadRect hl) fun _ => .op (.store M (slotRect n j) w Finset.univ hx hu) k) Q) := by
  subst hm hw
  iintro H Hk
  ihave H' := (held_slot M c j).1 $$ H
  icases H' with ⟨%f, H⟩
  have hS : M.view.setOn (slotRect n j).toLoadRect.set ⊆ slotSet M j := by
    rw [slotSet_eq]; exact subset_rfl
  have hS' : (M.access (slotRect n j)).setOn Finset.univ ⊆ slotSet M j := by
    refine Finset.Subset.trans (View.setOn_subset_set _ _) ?_
    rw [slotSet_eq]; exact (View.set_slice _ _).le
  iapply (wp_load 𝒱₀ (c : Thread nD τ) none Set.univ (m := M) (S := slotSet M j) (q := fullShare) (f := f) hS) $$ [H]
  · iexact H
  iintro H
  iapply (wp_store 𝒱₀ (c : Thread nD τ) none Set.univ (m := M) (r := slotRect n j) (Mk := Finset.univ) (S := slotSet M j) (f := f) hS') $$ [H]
  · iexact H
  iintro H
  iapply Hk
  unfold owns
  iexists _
  isplitr; · ipureintro; exact slot_read_write M j f w
  iexact H

end Blocks

end Cert.KernelIdeal.Reduce

end
-- ==== Proof.KernelIdeal.Blocks.lean ====
/-
# Loads and stores of blocks

The rules for the kernel's loads and stores of whole blocks, of its operands, and of the result, whose sixteen column
blocks are stored one after the other.
-/
module

public import proofs.«01_k».proof.Proof.KernelIdeal.Steps

@[expose] public section

noncomputable section

namespace Cert.KernelIdeal.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (c : Dev nD) {α : Type} {Q : α → sProp (MT nD τ sig Unit (Elt F) ℕ UU ℕ)}

/-! ## Whole blocks -/

omit [FloatOps F] in
theorem read_block (m : Memref sig .tc .vmem S512x256 .f32) (f : m.view.ty.Contents (Elt F)) :
    m.view.readAt (Elt F) blockRect.toLoadRect f = m.view.read (Elt F) f := by
  funext i
  show m.view.read (Elt F) f (blockRect.toLoadRect.idx i) = _
  congr 1
  funext a
  refine Fin.ext ?_
  fin_cases a
  · show 0 + 1 * (i 0).val = (i 0).val; omega
  · show 0 + 1 * (i 1).val = (i 1).val; omega

omit [FloatOps F] in
theorem read_write_block (m : Memref sig .tc .vmem S512x256 .f32) (f : m.view.ty.Contents (Elt F)) (w : Vec F S512x256 .f32) :
    m.view.read (Elt F) ((m.access blockRect).write (Elt F) f w Finset.univ) = w := by
  rw [← read_block]
  exact View.read_write_univ (v := m.access blockRect) f w

/-- Loading a whole block: what it holds. -/
theorem block_get {m : Memref sig .tc .vmem S512x256 .f32} {q : PosShare TreeShare} {X : FVec F S512x256 .f32}
    {hl : m.view.LoadsAt blockRect.toLoadRect} {k : Vec F S512x256 .f32 → Prog (TpuEff nD τ sig (Elt F) Λ₀ .tc) α} :
    owns (c : Thread nD τ) m q X ⊢ iprop((owns (c : Thread nD τ) m q X
        -∗ wp frame (wpE (defs₀ (F := F)) 𝒱₀ (c : Thread nD τ) none) Set.univ (k X) Q)
      -∗ wp frame (wpE (defs₀ (F := F)) 𝒱₀ (c : Thread nD τ) none) Set.univ (.op (.load m blockRect.toLoadRect hl) k) Q) := by
  unfold owns
  iintro ⟨%f, %hf, H⟩ Hk
  iapply (wp_load 𝒱₀ (c : Thread nD τ) none Set.univ (m := m) (S := m.view.set) (q := q) (f := f) (View.setOn_subset_set _ _)) $$ [H]
  · iexact H
  iintro H
  rw [read_block, hf]
  iapply Hk
  iexists f
  isplitr; · ipureintro; exact hf
  iexact H

/-- Storing a whole block, whatever it held. -/
theorem block_put {m : Memref sig .tc .vmem S512x256 .f32} {w X : FVec F S512x256 .f32} (hw : w = X)
    {hl : m.view.LoadsAt blockRect.toLoadRect} {hx : (m.access blockRect).Stores Finset.univ}
    {hu : (Finset.univ : Finset blockRect.shape.Idx) = Finset.univ ∨ ∀ a, blockRect.stride a = 1}
    {k : PUnit → Prog (TpuEff nD τ sig (Elt F) Λ₀ .tc) α} :
    held c m ⊢ iprop((owns (c : Thread nD τ) m fullShare X -∗ wp frame (wpE (defs₀ (F := F)) 𝒱₀ (c : Thread nD τ) none) Set.univ (k ⟨⟩) Q)
      -∗ wp frame (wpE (defs₀ (F := F)) 𝒱₀ (c : Thread nD τ) none) Set.univ
          (.op (.load m blockRect.toLoadRect hl) fun _ => .op (.store m blockRect w Finset.univ hx hu) k) Q) := by
  subst hw
  iintro H Hk
  ihave H' := (held_eq c m).1 $$ H
  icases H' with ⟨%f, H⟩
  iapply (wp_load 𝒱₀ (c : Thread nD τ) none Set.univ (m := m) (S := m.view.set) (q := fullShare) (f := f) (View.setOn_subset_set _ _)) $$ [H]
  · iexact H
  iintro H
  iapply (wp_store 𝒱₀ (c : Thread nD τ) none Set.univ (m := m) (r := blockRect) (Mk := Finset.univ) (S := m.view.set) (f := f)
    (Memref.setOn_access_subset _ _ _)) $$ [H]
  · iexact H
  iintro H
  iapply Hk
  unfold owns
  iexists _
  isplitr; · ipureintro; exact read_write_block m f w
  iexact H

/-- Reading a rectangle of a buffer held whole. -/
theorem read_get {s : Shape} (m : Memref sig .tc .vmem s .f32) (f : m.view.ty.Contents (Elt F)) {r : Rect s} {X : Vec F r.shape .f32}
    (hX : m.view.readAt (Elt F) r.toLoadRect f = X) {hl : m.view.LoadsAt r.toLoadRect}
    {k : Vec F r.shape .f32 → Prog (TpuEff nD τ sig (Elt F) Λ₀ .tc) α} :
    ((m.view.loc (c : Thread nD τ)) ↦{fullShare} f : sProp 𝕄) ⊢ iprop((((m.view.loc (c : Thread nD τ)) ↦{fullShare} f)
        -∗ wp frame (wpE (defs₀ (F := F)) 𝒱₀ (c : Thread nD τ) none) Set.univ (k X) Q)
      -∗ wp frame (wpE (defs₀ (F := F)) 𝒱₀ (c : Thread nD τ) none) Set.univ (.op (.load m r.toLoadRect hl) k) Q) := by
  subst hX
  iintro H Hk
  iapply (wp_load 𝒱₀ (c : Thread nD τ) none Set.univ (m := m) (Finset.subset_univ _)) $$ H; iintro H
  iapply Hk $$ H

/-! ## The result -/

variable (x : Dev nD → Vec F S1024x1024 .f32) (dy : Dev nD → Vec F S1024x4096 .f32)

/-- Column block `b` of device `c`'s result: what the device at the block's ring position, in `c`'s row, finished. -/
def outBlk (b : Fin 16) : FVec F S512x256 .f32 :=
  acc x dy ⟨b.val % 2, Nat.mod_lt _ (by decide)⟩ (place ⟨b.val / 2, by have := b.isLt; omega⟩ (row c))

theorem outBlk_blk (d : Dev nD) (s : Fin 2) (h : row d = row c) : outBlk c x dy (blk d s) = acc x dy s d := by
  have h1 : (⟨(blk d s).val % 2, Nat.mod_lt _ (by decide)⟩ : Fin 2) = s :=
    Fin.ext (show (2 * (pos d).val + s.val) % 2 = s.val by have := s.isLt; omega)
  have h2 : ∀ p, (⟨(blk d s).val / 2, p⟩ : Fin 8) = pos d := fun p =>
    Fin.ext (show (2 * (pos d).val + s.val) / 2 = (pos d).val by have := s.isLt; omega)
  unfold outBlk
  rw [h1, h2, ← h, place_pos_row]

/-- What the stores write, in order. -/
theorem written : ∀ r : Fin 16, outBlk c x dy (writes c r)
    = (![accA x dy c, accB x dy c,
        accA x dy (left^[1] c), accA x dy (right^[1] c), accB x dy (left^[1] c), accB x dy (right^[1] c),
        accA x dy (left^[2] c), accA x dy (right^[2] c), accB x dy (left^[2] c), accB x dy (right^[2] c),
        accA x dy (left^[3] c), accB x dy (right^[3] c), accA x dy (right^[3] c), accB x dy (left^[3] c),
        accA x dy (left^[4] c), accB x dy (right^[4] c)] : Fin 16 → FVec F S512x256 .f32) r := by
  have l (h : ℕ) (s : Fin 2) : outBlk c x dy (blk (left^[h] c) s) = acc x dy s (left^[h] c) := outBlk_blk c x dy _ s (row_left_iter h c)
  have r (h : ℕ) (s : Fin 2) : outBlk c x dy (blk (right^[h] c) s) = acc x dy s (right^[h] c) := outBlk_blk c x dy _ s (row_right_iter h c)
  intro i
  fin_cases i
  exacts [l 0 0, l 0 1, l 1 0, r 1 0, l 1 1, r 1 1, l 2 0, r 2 0, l 2 1, r 2 1, l 3 0, r 3 1, r 3 0, l 3 1, l 4 0, r 4 1]

/-- Element `j` of column block `b` of the result. -/
def cell (b : Fin 16) (j : S512x256.Idx) : S512x4096.Idx := fun a => match a with
  | ⟨0, _⟩ => (⟨(j 0).val, (j 0).isLt⟩ : Fin 512)
  | ⟨1, _⟩ => (⟨256 * b.val + (j 1).val, by have := b.isLt; have : (j 1).val < 256 := (j 1).isLt; omega⟩ : Fin 4096)

theorem cell_inj {b b' : Fin 16} {j j' : S512x256.Idx} (h : cell b j = cell b' j') : b = b' ∧ j = j' := by
  have h0 : (j 0).val = (j' 0).val := congrArg (fun i : S512x4096.Idx => (i 0).val) h
  have h1 : 256 * b.val + (j 1).val = 256 * b'.val + (j' 1).val := congrArg (fun i : S512x4096.Idx => (i 1).val) h
  have l1 : (j 1).val < 256 := (j 1).isLt
  have l2 : (j' 1).val < 256 := (j' 1).isLt
  refine ⟨Fin.ext (by omega), funext fun a => Fin.ext ?_⟩
  fin_cases a
  · exact h0
  · show (j 1).val = (j' 1).val; omega

/-- The result's buffer with its first `n` stores made. -/
def outHeld (n : ℕ) : sProp 𝕄 :=
  iprop(∃ f : (cc0_stg2_0 : Ref sig .tc).ty.Contents (Elt F),
    ⌜∀ r : Fin 16, r.val < n → ∀ j : S512x256.Idx, f (cell (writes c r) j) = outBlk c x dy (writes c r) j⌝
    ∗ (((c : Thread nD τ).loc cc0_stg2_0) ↦{fullShare} f))

/-- The rectangle of a store at column `o`. -/
abbrev outRect (off : Fin 2 → ℕ) (inb : ∀ a, off a + S512x256.size a ≤ S512x4096.size a) : Rect S512x4096 :=
  Rect.unit (s := S512x4096) off S512x256.size inb

omit [FloatOps F] in
theorem outRect_emb (b : Fin 16) (inb) (j : S512x256.Idx) : (outM.access (outRect ![0, 256 * b.val] inb)).emb j = cell b j := by
  funext a
  refine Fin.ext ?_
  fin_cases a
  · show 0 + 1 * (j 0).val = (j 0).val; omega
  · show 256 * b.val + 1 * (j 1).val = 256 * b.val + (j 1).val; omega

/-- The result's buffer after the store of `w` as block `b`. -/
def outWrite (b : Fin 16) (inb : ∀ a, (![0, 256 * b.val] : Fin 2 → ℕ) a + S512x256.size a ≤ S512x4096.size a)
    (f : (cc0_stg2_0 : Ref sig .tc).ty.Contents (Elt F)) (w : Vec F S512x256 .f32) : (cc0_stg2_0 : Ref sig .tc).ty.Contents (Elt F) :=
  (outM.access (outRect ![0, 256 * b.val] inb)).write (Elt F) f w Finset.univ

omit [FloatOps F] in
theorem out_write_same (b : Fin 16) (inb) (f : (cc0_stg2_0 : Ref sig .tc).ty.Contents (Elt F)) (w : Vec F S512x256 .f32) (j : S512x256.Idx) :
    outWrite b inb f w (cell b j) = w j := by
  rw [← outRect_emb b inb j]
  exact View.write_emb_of_mem (v := outM.access (outRect ![0, 256 * b.val] inb)) (Val := Elt F) f w (M := Finset.univ) (x := j) (Finset.mem_univ _)

omit [FloatOps F] in
theorem out_write_other {b b' : Fin 16} (hb : b' ≠ b) (inb) (f : (cc0_stg2_0 : Ref sig .tc).ty.Contents (Elt F)) (w : Vec F S512x256 .f32)
    (j : S512x256.Idx) : outWrite b inb f w (cell b' j) = f (cell b' j) := by
  refine View.write_of_not_mem (v := outM.access (outRect ![0, 256 * b.val] inb)) f w _ fun h => ?_
  obtain ⟨j', -, e⟩ := Finset.mem_map.mp h
  exact hb (cell_inj ((outRect_emb b inb j').symm.trans e)).1.symm

/-- Store number `r` of the result. -/
theorem out_put (n : ℕ) (r : Fin 16) (hn : n = r.val) {off : Fin 2 → ℕ} {inb} (hoff : off = ![0, 256 * (writes c r).val])
    {w : Vec F S512x256 .f32} (hw : w = outBlk c x dy (writes c r))
    {hl : (outM : Memref sig .tc .vmem S512x4096 .f32).view.LoadsAt (outRect off inb).toLoadRect} {hx : (outM.access (outRect off inb)).Stores Finset.univ}
    {hu : (Finset.univ : Finset (outRect off inb).shape.Idx) = Finset.univ ∨ ∀ a, (outRect off inb).stride a = 1}
    {k : PUnit → Prog (TpuEff nD τ sig (Elt F) Λ₀ .tc) α} :
    outHeld c x dy n ⊢ iprop((outHeld c x dy (n + 1) -∗ wp frame (wpE (defs₀ (F := F)) 𝒱₀ (c : Thread nD τ) none) Set.univ (k ⟨⟩) Q)
      -∗ wp frame (wpE (defs₀ (F := F)) 𝒱₀ (c : Thread nD τ) none) Set.univ
          (.op (.load outM (outRect off inb).toLoadRect hl) fun _ => .op (.store outM (outRect off inb) w Finset.univ hx hu) k) Q) := by
  subst hn hoff hw
  unfold outHeld
  iintro ⟨%f, %hf, H⟩ Hk
  iapply (wp_load 𝒱₀ (c : Thread nD τ) none Set.univ (m := outM) (S := Finset.univ) (q := fullShare) (f := f) (Finset.subset_univ _)) $$ [H]
  · iexact H
  iintro H
  iapply (wp_store 𝒱₀ (c : Thread nD τ) none Set.univ (m := outM) (r := outRect ![0, 256 * (writes c r).val] inb) (Mk := Finset.univ)
    (S := Finset.univ) (f := f) (Finset.subset_univ _)) $$ [H]
  · iexact H
  iintro H
  iapply Hk
  iexists (outWrite (writes c r) inb f (outBlk c x dy (writes c r)))
  isplitr
  · ipureintro
    intro r' hr' j
    by_cases hb : writes c r' = writes c r
    · rw [hb]; exact out_write_same _ inb f _ j
    · rw [out_write_other hb inb]
      refine hf r' ?_ j
      have h1 : r'.val ≠ r.val := fun e => hb (by rw [Fin.ext e])
      omega
  iexact H

/-- The result of device `c`, whole. -/
def outAll (i : S512x4096.Idx) : F .f32 :=
  outBlk c x dy ⟨(i 1).val / 256, by have : (i 1).val < 4096 := (i 1).isLt; omega⟩
    fun a => match a with
      | ⟨0, _⟩ => (⟨(i 0).val, (i 0).isLt⟩ : Fin 512)
      | ⟨1, _⟩ => (⟨(i 1).val % 256, Nat.mod_lt _ (by decide)⟩ : Fin 256)

/-- Its sixteen stores make it. -/
theorem out_done : outHeld c x dy 16 ⊢ (((c : Thread nD τ).loc cc0_stg2_0) ↦{fullShare} (outAll c x dy) : sProp 𝕄) := by
  unfold outHeld
  iintro ⟨%f, %hf, H⟩
  have e : f = outAll c x dy := by
    funext i
    have l1 : (i 1).val < 4096 := (i 1).isLt
    obtain ⟨r, hr⟩ := writes_all c ⟨(i 1).val / 256, by omega⟩
    have := hf r r.isLt fun a => match a with
      | ⟨0, _⟩ => (⟨(i 0).val, (i 0).isLt⟩ : Fin 512)
      | ⟨1, _⟩ => (⟨(i 1).val % 256, Nat.mod_lt _ (by decide)⟩ : Fin 256)
    rw [hr] at this
    refine Eq.trans (congrArg f ?_) this
    funext a
    refine Fin.ext ?_
    fin_cases a
    · rfl
    · show (i 1).val = 256 * ((i 1).val / 256) + (i 1).val % 256; omega
  rw [e]
  iexact H

end Cert.KernelIdeal.Reduce

end
-- ==== Proof.KernelIdeal.Parts1.lean ====
/-
# The body's parts, I

The parts of the kernel's body up to the first transfers along the rings, each from what it needs to what it leaves,
for an arbitrary device.
-/
module

public import proofs.«01_k».proof.Proof.KernelIdeal.Blocks

@[expose] public section

noncomputable section

namespace Cert.KernelIdeal.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A piece of the body, at the kernel's own buffers and semaphores. -/
abbrev onBufs {β : Sort _} (f : (a0 : Memref sig .tc .vmem S1024x1024 .f32) → a0.IsWhole → (a1 : Memref sig .tc .vmem S1024x4096 .f32) → a1.IsWhole → (a2 : Memref sig .tc .vmem S512x4096 .f32) → a2.IsWhole → (a3 : Memref sig .tc .vmem S512x256 .f32) → a3.IsWhole → (a4 : Memref sig .tc .vmem S512x256 .f32) → a4.IsWhole → (a5 : Memref sig .tc .vmem S512x256 .f32) → a5.IsWhole → (a6 : Memref sig .tc .vmem S512x256 .f32) → a6.IsWhole → (a7 : Memref sig .tc .vmem S5x512x256 .f32) → a7.IsWhole → (a8 : Memref sig .tc .vmem S4x512x256 .f32) → a8.IsWhole → (a9 : Memref sig .tc .vmem S4x512x256 .f32) → a9.IsWhole → (a10 : Memref sig .tc .vmem S5x512x256 .f32) → a10.IsWhole → DmaSems sig S_ → DmaSems sig S_ → DmaSems sig S_ → DmaSems sig S_ → DmaSems sig S4 → DmaSems sig S4 → DmaSems sig S3 → DmaSems sig S3 → DmaSems sig S3 → DmaSems sig S3 → DmaSems sig S4 → DmaSems sig S4 → β) : β :=
  f (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)
    cc0_scratch8 cc0_scratch9 cc0_scratch10 cc0_scratch11 cc0_scratch12 cc0_scratch13 cc0_scratch14 cc0_scratch15 cc0_scratch16 cc0_scratch17 cc0_scratch18 cc0_scratch19

variable (x : Dev nD → Vec F S1024x1024 .f32) (dy : Dev nD → Vec F S1024x4096 .f32) (K : Dev nD × Key → ℕ) (c : Dev nD)

/-- Proving a piece of the body on device `c`. -/
abbrev wpc {α : Type} (p : Prog (TpuEff nD τ sig (Elt F) Λ₀ .tc) α) (Kt : α → sProp (MT nD τ sig Unit (Elt F) ℕ UU ℕ)) :
    sProp (MT nD τ sig Unit (Elt F) ℕ UU ℕ) :=
  wp frame (wpE (defs₀ (F := F)) 𝒱₀ (c : Thread nD τ) none) Set.univ p Kt

/-- A transfer's source block, at what the transfer carries: a share of it, -/
abbrev carried (t : Xfer) (q : PosShare TreeShare) : sProp (MT nD τ sig Unit (Elt F) ℕ UU ℕ) :=
  owns (c : Thread nD τ) (srcM t) q (val x dy t c)
/-- and the block that a transfer filled. -/
abbrev got (t : Xfer) : sProp (MT nD τ sig Unit (Elt F) ℕ UU ℕ) :=
  owns (c : Thread nD τ) (dstM t) fullShare (val x dy t (src t c))

/-- Part 1 reads which device it runs on. -/
theorem part1 (Kt) : (iprop(∀ v2 v5 v8 v11 v24 v27 v30 v31 v32 v33, Kt ⟨c, v2, v5, v8, v11, v24, v27, v30, v31, v32, v33⟩) : sProp 𝕄)
    ⊢ wpc c (onBufs (k0_part1 (F := F))) Kt := by
  simp only [onBufs, k0_part1_eq_skeleton]; unfold k0_part1_skel
  simp only [Prog.lift, Prog.bind_op, Prog.bind_ret, Prog.pure_eq_ret, wp_deviceId]
  iintro Hk
  rw [wp_ret]; imodintro
  iapply Hk

/-- Part 2 is the barrier. -/
theorem part2 (v2 v5 v8 v24 v27 v30 v31 v32 v33) (Kt) (z : List Key) :
    book x dy K ⊢ iprop(dutyTok ER (barCell (nbr .right c)) 0 (opp .right) -∗ dutyTok ER (barCell (nbr .left c)) 0 (opp .left)
      -∗ dutyTok ER (barCell (nbr .across c)) 0 (opp .across) -∗ offer (opp .right) c -∗ offer (opp .left) c -∗ offer (opp .across) c
      -∗ cred (tallyAt (barCell c) () 3) -∗ atPos ER (barCell c) 0 ∅ 0 -∗ at_ c (.inl .right :: .inl .left :: .inl .across :: xdue (order.drop 0)) z
      -∗ (∀ j1 j2 j3 j4, (bigSep Finset.univ fun t => held (tgt t c) (dstM t)) -∗ at_ c (xdue (order.drop 0)) (none :: z) -∗ Kt ⟨j1, j2, j3, j4⟩)
      -∗ wpc c (onBufs (k0_part2 (F := F)) c v2 v5 v8 v24 v27 v30 v31 v32 v33) Kt) := by
  simp only [onBufs, k0_part2_eq_skeleton]; unfold k0_part2_skel
  simp only [semSignalWord, semWaitWord, Prog.lift, Prog.bind_op, Prog.bind_ret, Prog.pure_eq_ret]
  iintro #HB Ht1 Ht2 Ht3 Ho1 Ho2 Ho3 Hc Hat HO Hk
  iapply (signal_step x dy K c .right (dev1_eq c)) $$ HB Ht1 Ho1 HO; iintro HO
  iapply (signal_step x dy K c .left (dev2_eq c)) $$ HB Ht2 Ho2 HO; iintro HO
  iapply (signal_step x dy K c .across (dev3_eq c)) $$ HB Ht3 Ho3 HO; iintro HO
  iapply (barrier_step x dy K c (l := xdue (order.drop 0)) (by decide)) $$ HB Hc Hat HO; iintro ⟨Hh, HO⟩
  rw [wp_ret]; imodintro
  iapply Hk $$ Hh HO

/-- Part 3 reads the operands, forms the two products that the device across adds to its own, and sends the first. -/
theorem part3 (v2 v5 v8 v11 v44 v45) (Kt) (z : List Key) :
    book x dy K ⊢ iprop((((c : Thread nD τ).loc cc0_stg0_0) ↦{fullShare} x c) -∗ (((c : Thread nD τ).loc cc0_stg1_0) ↦{fullShare} dy c)
      -∗ held c (srcM .ya) -∗ held c (srcM .yb) -∗ ready .ya c -∗ at_ c (xdue (order.drop 0)) z
      -∗ (∀ j1 j2, (((c : Thread nD τ).loc cc0_stg0_0) ↦{fullShare} x c) -∗ (((c : Thread nD τ).loc cc0_stg1_0) ↦{fullShare} dy c)
          -∗ sent .ya c -∗ carried x dy c .yb fullShare -∗ at_ c (xdue (order.drop 1)) z
          -∗ Kt ⟨k0_pay1 (colsA dy c), k0_pay2 (colsB dy c), k0_pay4 (xMine x c), j1, j2⟩)
      -∗ wpc c (onBufs (k0_part3 (F := F)) c v2 v5 v8 v11 v44 v45) Kt) := by
  simp only [onBufs, k0_part3_eq_skeleton]; unfold k0_part3_skel
  simp only [Prog.lift, Prog.bind_op, Prog.bind_ret, Prog.pure_eq_ret]
  iintro #HB Hx Hy Ha Hb Hr HO Hk
  iapply (read_get c dyM (dy c) (X := colsA dy c) rfl) $$ Hy; iintro Hy
  iapply (read_get c dyM (dy c) (X := colsB dy c) rfl) $$ Hy; iintro Hy
  iapply (read_get c xM (x c) (X := xPeer x c) rfl) $$ Hx; iintro Hx
  iapply (read_get c xM (x c) (X := xMine x c) rfl) $$ Hx; iintro Hx
  iapply (block_put c (m := srcM .ya) (X := val x dy .ya c) rfl) $$ Ha; iintro Ha
  iapply (cross_send x dy K c .ya 0 rfl rfl (dev4_eq c) rfl rfl rfl rfl) $$ HB Ha Hr HO; iintro ⟨Ht, HO⟩
  iapply (block_put c (m := srcM .yb) (X := val x dy .yb c) rfl) $$ Hb; iintro Hb
  rw [wp_ret]; imodintro
  iapply Hk $$ Hx Hy Ht Hb HO

/-- The finished blocks, as they are put on the rings. -/
theorem slab_ra : shapeCast S512x256 (k0_pay8 (k0_pay1 (colsA dy c)) (k0_pay4 (xMine x c)) (partA x dy (across c))) numel_slot = val x dy (.ra 0) c := by
  show shapeCast S512x256 (shapeCast S1x512x256 (accA x dy c) _) _ = accA x dy c
  exact shapeCast_shapeCast _ _ _
theorem slab_la : shapeCast S512x256 (k0_pay9 (k0_pay1 (colsA dy c)) (k0_pay4 (xMine x c)) (partA x dy (across c))) numel_slot = val x dy (.la 0) c := by
  show shapeCast S512x256 (shapeCast S1x512x256 (accA x dy c) _) _ = accA x dy c
  exact shapeCast_shapeCast _ _ _
theorem slab_rb : shapeCast S512x256 (k0_pay12 (k0_pay10 (k0_pay2 (colsB dy c)) (k0_pay4 (xMine x c))) (partB x dy (across c))) numel_slot = val x dy (.rb 0) c := by
  show shapeCast S512x256 (shapeCast S1x512x256 (accB x dy c) _) _ = accB x dy c
  exact shapeCast_shapeCast _ _ _
theorem slab_lb : shapeCast S512x256 (k0_pay13 (k0_pay10 (k0_pay2 (colsB dy c)) (k0_pay4 (xMine x c))) (partB x dy (across c))) numel_slot = val x dy (.lb 0) c := by
  show shapeCast S512x256 (shapeCast S1x512x256 (accB x dy c) _) _ = accB x dy c
  exact shapeCast_shapeCast _ _ _

/-- Part 4 sends the second product, and adds the arrived one to the device's own: the first finished block, put on both rings. -/
theorem part4 (v2 v5 v8 v24 v27 v44 v97 v98) (Kt) (z : List Key) :
    book x dy K ⊢ iprop(carried x dy c (.yb) fullShare -∗ ready .yb c -∗ due .ya c -∗ held c (srcM (.ra 0)) -∗ held c (srcM (.la 0)) -∗ at_ c (xdue (order.drop 1)) (z) -∗
      (sent .yb c -∗ held c (dstM .ya) -∗ carried x dy c (.ra 0) fullShare -∗ carried x dy c (.la 0) fullShare -∗ at_ c (xdue (order.drop 2)) (some (.ya, true) :: z) -∗ Kt (accA x dy c))
      -∗ wpc c (onBufs (k0_part4 (F := F)) c v2 v5 v8 v24 v27 v44 (k0_pay1 (colsA dy c)) (k0_pay4 (xMine x c)) v97 v98) Kt) := by
  simp only [onBufs, k0_part4_eq_skeleton]; unfold k0_part4_skel
  simp only [Prog.lift, Prog.bind_op, Prog.bind_ret, Prog.pure_eq_ret]
  iintro #HB B_yb R_yb D_ya H1 H2 HO Hk
  iapply (cross_send x dy K c .yb 1 rfl rfl (dev5_eq c) rfl rfl rfl rfl) $$ HB B_yb R_yb HO; iintro ⟨S_yb, HO⟩
  iapply (recv_step x dy K c (.ya) (l := xdue (order.drop 2)) (M := dstM .ya) (X := partA x dy (across c)) rfl rfl (by decide) rfl (credit_dst (.ya))) $$ HB D_ya HO; iintro ⟨G_ya, HO⟩
  iapply (block_get c (m := dstM .ya)) $$ G_ya; iintro G_ya
  ihave G_ya := (held_intro c (dstM .ya) (partA x dy (across c))) $$ G_ya
  iapply (slot_put c (0 : Fin 5) (m := srcM (.ra 0)) rfl (slab_ra x dy c)) $$ H1; iintro H1
  iapply (slot_put c (0 : Fin 4) (m := srcM (.la 0)) rfl (slab_la x dy c)) $$ H2; iintro H2
  rw [wp_ret]; imodintro
  unfold accA
  iapply Hk $$ S_yb G_ya H1 H2 HO

/-- Part 5 starts the first two ring transfers and stores the device's own first block. -/
theorem part5 (v2 v5 v11 v40 v43) (Kt) (z : List Key) :
    book x dy K ⊢ iprop(carried x dy c (.ra 0) fullShare -∗ ready (.ra 0) c -∗ carried x dy c (.la 0) fullShare -∗ ready (.la 0) c -∗ outHeld c x dy 0 -∗ at_ c (xdue (order.drop 2)) (z) -∗
      (∀ j, carried x dy c (.ra 0) fullShare.right -∗ sent (.ra 0) c -∗ carried x dy c (.la 0) fullShare.right -∗ sent (.la 0) c -∗ outHeld c x dy 1 -∗ at_ c (xdue (order.drop 4)) (z) -∗ Kt ⟨k0_pay10 (k0_pay2 (colsB dy c)) (k0_pay4 (xMine x c)), j⟩)
      -∗ wpc c (onBufs (k0_part5 (F := F)) c v2 v5 v11 v40 v43 (k0_pay2 (colsB dy c)) (k0_pay4 (xMine x c)) (accA x dy c)) Kt) := by
  simp only [onBufs, k0_part5_eq_skeleton]; unfold k0_part5_skel
  simp only [Prog.lift, Prog.bind_op, Prog.bind_ret, Prog.pure_eq_ret]
  iintro #HB B_ra0 R_ra0 B_la0 R_la0 Ho HO Hk
  iapply (ring_send x dy K c (.ra 0) 2 rfl rfl (dev6_eq c) rfl rfl rfl rfl) $$ HB B_ra0 R_ra0 HO; iintro ⟨B_ra0, S_ra0, HO⟩
  iapply (ring_send x dy K c (.la 0) 3 rfl rfl (dev7_eq c) rfl rfl rfl rfl) $$ HB B_la0 R_la0 HO; iintro ⟨B_la0, S_la0, HO⟩
  iapply (out_put c x dy 0 0 rfl (off5_eq 0 c) (written c x dy 0).symm) $$ Ho; iintro Ho
  rw [wp_ret]; imodintro
  iapply Hk $$ B_ra0 S_ra0 B_la0 S_la0 Ho HO

/-- Part 6 finishes the second block the same way and starts its first transfer. -/
theorem part6 (v5 v8 v24 v27 v40 v44 v161) (Kt) (z : List Key) :
    book x dy K ⊢ iprop(due .yb c -∗ held c (srcM (.rb 0)) -∗ held c (srcM (.lb 0)) -∗ ready (.rb 0) c -∗ at_ c (xdue (order.drop 4)) (z) -∗
      (∀ j, held c (dstM .yb) -∗ carried x dy c (.rb 0) fullShare.right -∗ sent (.rb 0) c -∗ carried x dy c (.lb 0) fullShare -∗ at_ c (xdue (order.drop 5)) (some (.yb, true) :: z) -∗ Kt ⟨accB x dy c, j⟩)
      -∗ wpc c (onBufs (k0_part6 (F := F)) c v5 v8 v24 v27 v40 v44 (k0_pay10 (k0_pay2 (colsB dy c)) (k0_pay4 (xMine x c))) v161) Kt) := by
  simp only [onBufs, k0_part6_eq_skeleton]; unfold k0_part6_skel
  simp only [Prog.lift, Prog.bind_op, Prog.bind_ret, Prog.pure_eq_ret]
  iintro #HB D_yb H1 H2 R_rb0 HO Hk
  iapply (recv_step x dy K c (.yb) (l := xdue (order.drop 4)) (M := dstM .yb) (X := partB x dy (across c)) rfl rfl (by decide) rfl (credit_dst (.yb))) $$ HB D_yb HO; iintro ⟨G_yb, HO⟩
  iapply (block_get c (m := dstM .yb)) $$ G_yb; iintro G_yb
  ihave G_yb := (held_intro c (dstM .yb) (partB x dy (across c))) $$ G_yb
  iapply (slot_put c (0 : Fin 4) (m := srcM (.rb 0)) rfl (slab_rb x dy c)) $$ H1; iintro B_rb0
  iapply (slot_put c (0 : Fin 5) (m := srcM (.lb 0)) rfl (slab_lb x dy c)) $$ H2; iintro H2
  iapply (ring_send x dy K c (.rb 0) 4 rfl rfl (dev8_eq c) rfl rfl rfl rfl) $$ HB B_rb0 R_rb0 HO; iintro ⟨B_rb0, S_rb0, HO⟩
  rw [wp_ret]; imodintro
  unfold accB
  iapply Hk $$ G_yb B_rb0 S_rb0 H2 HO

/-- Part 7 starts its second transfer and stores the device's own second block. -/
theorem part7 (v5 v11 v24 v27 v43 v189) (Kt) (z : List Key) :
    book x dy K ⊢ iprop(carried x dy c (.lb 0) fullShare -∗ ready (.lb 0) c -∗ outHeld c x dy 1 -∗ at_ c (xdue (order.drop 5)) (z) -∗
      (∀ j1 j2, carried x dy c (.lb 0) fullShare.right -∗ sent (.lb 0) c -∗ outHeld c x dy 2 -∗ at_ c (xdue (order.drop 6)) (z) -∗ Kt ⟨j1, j2⟩)
      -∗ wpc c (onBufs (k0_part7 (F := F)) c v5 v11 v24 v27 v43 (accB x dy c) v189) Kt) := by
  simp only [onBufs, k0_part7_eq_skeleton]; unfold k0_part7_skel
  simp only [Prog.lift, Prog.bind_op, Prog.bind_ret, Prog.pure_eq_ret]
  iintro #HB B_lb0 R_lb0 Ho HO Hk
  iapply (ring_send x dy K c (.lb 0) 5 rfl rfl (dev9_eq c) rfl rfl rfl rfl) $$ HB B_lb0 R_lb0 HO; iintro ⟨B_lb0, S_lb0, HO⟩
  iapply (out_put c x dy 1 1 rfl (off5_eq 1 c) (written c x dy 1).symm) $$ Ho; iintro Ho
  rw [wp_ret]; imodintro
  iapply Hk $$ B_lb0 S_lb0 Ho HO

end Cert.KernelIdeal.Reduce

end
-- ==== Proof.KernelIdeal.Parts2.lean ====
/-
# The body's parts, II

The parts that pass the finished blocks on along the rings and store those that have arrived.
-/
module

public import proofs.«01_k».proof.Proof.KernelIdeal.Parts1

@[expose] public section

noncomputable section

namespace Cert.KernelIdeal.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (x : Dev nD → Vec F S1024x1024 .f32) (dy : Dev nD → Vec F S1024x4096 .f32) (K : Dev nD × Key → ℕ) (c : Dev nD)

/-- Part 8 waits for a hop and sends the arrived block on. -/
theorem part8 (v5 v24 v27 v40 v43 v221 v222) (Kt) (z : List Key) :
    book x dy K ⊢ iprop(due (.ra 0) c -∗ ready (.ra 1) c -∗ at_ c (xdue (order.drop 6)) (z) -∗
      (carried x dy c (.ra 1) fullShare.right -∗ sent (.ra 1) c -∗ at_ c (xdue (order.drop 7)) (some (.ra 0, true) :: z) -∗ Kt ⟨⟩)
      -∗ wpc c (onBufs (k0_part8 (F := F)) c v5 v24 v27 v40 v43 v221 v222) Kt) := by
  simp only [onBufs, k0_part8_eq_skeleton]; unfold k0_part8_skel
  simp only [Prog.lift, Prog.bind_op, Prog.bind_ret, Prog.pure_eq_ret]
  iintro #HB D_ra0 R_ra1 HO Hk
  iapply (recv_step x dy K c (.ra 0) (l := xdue (order.drop 6)) (M := srcM (.ra 1)) (X := val x dy (.ra 1) c) rfl rfl (by decide) rfl (credit_dst (.ra 0))) $$ HB D_ra0 HO; iintro ⟨B_ra1, HO⟩
  iapply (ring_send x dy K c (.ra 1) 6 rfl rfl (dev10_eq c) rfl rfl rfl rfl) $$ HB B_ra1 R_ra1 HO; iintro ⟨B_ra1, S_ra1, HO⟩
  rw [wp_ret]; imodintro
  iapply Hk $$ B_ra1 S_ra1 HO

/-- Part 9 does so on the other ring, and waits for the second block's first hop. -/
theorem part9 (v5 v24 v27 v40 v43) (Kt) (z : List Key) :
    book x dy K ⊢ iprop(due (.la 0) c -∗ ready (.la 1) c -∗ due (.rb 0) c -∗ at_ c (xdue (order.drop 7)) (z) -∗
      (carried x dy c (.la 1) fullShare.right -∗ sent (.la 1) c -∗ carried x dy c (.rb 1) fullShare -∗ at_ c (xdue (order.drop 8)) (some (.rb 0, true) :: some (.la 0, true) :: z) -∗ Kt ⟨⟩)
      -∗ wpc c (onBufs (k0_part9 (F := F)) c v5 v24 v27 v40 v43) Kt) := by
  simp only [onBufs, k0_part9_eq_skeleton]; unfold k0_part9_skel
  simp only [Prog.lift, Prog.bind_op, Prog.bind_ret, Prog.pure_eq_ret]
  iintro #HB D_la0 R_la1 D_rb0 HO Hk
  iapply (recv_step x dy K c (.la 0) (l := xdue (order.drop 7)) (M := srcM (.la 1)) (X := val x dy (.la 1) c) rfl rfl (by decide) rfl (credit_dst (.la 0))) $$ HB D_la0 HO; iintro ⟨B_la1, HO⟩
  iapply (ring_send x dy K c (.la 1) 7 rfl rfl (dev11_eq c) rfl rfl rfl rfl) $$ HB B_la1 R_la1 HO; iintro ⟨B_la1, S_la1, HO⟩
  iapply (recv_step x dy K c (.rb 0) (l := xdue (order.drop 8)) (M := srcM (.rb 1)) (X := val x dy (.rb 1) c) rfl rfl (by decide) rfl (credit_dst (.rb 0))) $$ HB D_rb0 HO; iintro ⟨B_rb1, HO⟩
  rw [wp_ret]; imodintro
  iapply Hk $$ B_la1 S_la1 B_rb1 HO

/-- Part 10 sends it on and waits for the one the other way. -/
theorem part10 (v5 v24 v27 v40 v43) (Kt) (z : List Key) :
    book x dy K ⊢ iprop(carried x dy c (.rb 1) fullShare -∗ ready (.rb 1) c -∗ due (.lb 0) c -∗ at_ c (xdue (order.drop 8)) (z) -∗
      (∀ j1 j2, carried x dy c (.rb 1) fullShare.right -∗ sent (.rb 1) c -∗ carried x dy c (.lb 1) fullShare -∗ at_ c (xdue (order.drop 9)) (some (.lb 0, true) :: z) -∗ Kt ⟨j1, j2⟩)
      -∗ wpc c (onBufs (k0_part10 (F := F)) c v5 v24 v27 v40 v43) Kt) := by
  simp only [onBufs, k0_part10_eq_skeleton]; unfold k0_part10_skel
  simp only [Prog.lift, Prog.bind_op, Prog.bind_ret, Prog.pure_eq_ret]
  iintro #HB B_rb1 R_rb1 D_lb0 HO Hk
  iapply (ring_send x dy K c (.rb 1) 8 rfl rfl (dev12_eq c) rfl rfl rfl rfl) $$ HB B_rb1 R_rb1 HO; iintro ⟨B_rb1, S_rb1, HO⟩
  iapply (recv_step x dy K c (.lb 0) (l := xdue (order.drop 9)) (M := srcM (.lb 1)) (X := val x dy (.lb 1) c) rfl rfl (by decide) rfl (credit_dst (.lb 0))) $$ HB D_lb0 HO; iintro ⟨B_lb1, HO⟩
  rw [wp_ret]; imodintro
  iapply Hk $$ B_rb1 S_rb1 B_lb1 HO

/-- Part 11 sends that on, stores the first arrived block and reads the second. -/
theorem part11 (v11 v43 v311 v312) (Kt) (z : List Key) :
    book x dy K ⊢ iprop(carried x dy c (.lb 1) fullShare -∗ ready (.lb 1) c -∗ carried x dy c (.ra 1) fullShare.right -∗ carried x dy c (.la 1) fullShare.right -∗ outHeld c x dy 2 -∗ at_ c (xdue (order.drop 9)) (z) -∗
      (∀ j1 j2 j3, carried x dy c (.lb 1) fullShare.right -∗ sent (.lb 1) c -∗ carried x dy c (.ra 1) fullShare.right -∗ carried x dy c (.la 1) fullShare.right -∗ outHeld c x dy 3 -∗ at_ c (xdue (order.drop 10)) (z) -∗ Kt ⟨accA x dy (right^[1] c), j1, j2, j3⟩)
      -∗ wpc c (onBufs (k0_part11 (F := F)) c v11 v43 v311 v312) Kt) := by
  simp only [onBufs, k0_part11_eq_skeleton]; unfold k0_part11_skel
  simp only [Prog.lift, Prog.bind_op, Prog.bind_ret, Prog.pure_eq_ret]
  iintro #HB B_lb1 R_lb1 B_ra1 B_la1 Ho HO Hk
  iapply (ring_send x dy K c (.lb 1) 9 rfl rfl (dev13_eq c) rfl rfl rfl rfl) $$ HB B_lb1 R_lb1 HO; iintro ⟨B_lb1, S_lb1, HO⟩
  iapply (slot_get c (1 : Fin 5) (m := srcM (.ra 1)) rfl) $$ B_ra1; iintro %vra1 %hra1 B_ra1
  iapply (out_put c x dy 2 2 rfl (off5_eq 2 c) (hra1.trans (written c x dy 2).symm)) $$ Ho; iintro Ho
  iapply (slot_get c (1 : Fin 4) (m := srcM (.la 1)) rfl) $$ B_la1; iintro %vla1 %hla1 B_la1
  rw [wp_ret]; imodintro
  rw [← show k0_pay15 vla1 = accA x dy (right^[1] c) from hla1]
  iapply Hk $$ B_lb1 S_lb1 B_ra1 B_la1 Ho HO

/-- Part 12 stores it and the third, and reads the fourth. -/
theorem part12 (v11 v343 v344 v345) (Kt) (z : List Key) :
    book x dy K ⊢ iprop(carried x dy c (.rb 1) fullShare.right -∗ carried x dy c (.lb 1) fullShare.right -∗ outHeld c x dy 3 -∗
      (∀ j1 j2, carried x dy c (.rb 1) fullShare.right -∗ carried x dy c (.lb 1) fullShare.right -∗ outHeld c x dy 5 -∗ Kt ⟨accB x dy (right^[1] c), j1, j2⟩)
      -∗ wpc c (onBufs (k0_part12 (F := F)) c v11 (accA x dy (right^[1] c)) v343 v344 v345) Kt) := by
  simp only [onBufs, k0_part12_eq_skeleton]; unfold k0_part12_skel
  simp only [Prog.lift, Prog.bind_op, Prog.bind_ret, Prog.pure_eq_ret]
  iintro #HB B_rb1 B_lb1 Ho Hk
  iapply (out_put c x dy 3 3 rfl (off5_eq 3 c) (written c x dy 3).symm) $$ Ho; iintro Ho
  iapply (slot_get c (1 : Fin 4) (m := srcM (.rb 1)) rfl) $$ B_rb1; iintro %vrb1 %hrb1 B_rb1
  iapply (out_put c x dy 4 4 rfl (off5_eq 4 c) (hrb1.trans (written c x dy 4).symm)) $$ Ho; iintro Ho
  iapply (slot_get c (1 : Fin 5) (m := srcM (.lb 1)) rfl) $$ B_lb1; iintro %vlb1 %hlb1 B_lb1
  rw [wp_ret]; imodintro
  rw [← show k0_pay17 vlb1 = accB x dy (right^[1] c) from hlb1]
  iapply Hk $$ B_rb1 B_lb1 Ho

/-- Part 13 stores it and waits for the next hop. -/
theorem part13 (v5 v24 v27 v375 v377) (Kt) (z : List Key) :
    book x dy K ⊢ iprop(due (.ra 1) c -∗ outHeld c x dy 5 -∗ at_ c (xdue (order.drop 10)) (z) -∗
      (carried x dy c (.ra 2) fullShare -∗ outHeld c x dy 6 -∗ at_ c (xdue (order.drop 10)) (some (.ra 1, true) :: z) -∗ Kt ⟨⟩)
      -∗ wpc c (onBufs (k0_part13 (F := F)) c v5 v24 v27 (accB x dy (right^[1] c)) v375 v377) Kt) := by
  simp only [onBufs, k0_part13_eq_skeleton]; unfold k0_part13_skel
  simp only [Prog.lift, Prog.bind_op, Prog.bind_ret, Prog.pure_eq_ret]
  iintro #HB D_ra1 Ho HO Hk
  iapply (out_put c x dy 5 5 rfl (off5_eq 5 c) (written c x dy 5).symm) $$ Ho; iintro Ho
  iapply (recv_step x dy K c (.ra 1) (l := xdue (order.drop 10)) (M := srcM (.ra 2)) (X := val x dy (.ra 2) c) rfl rfl (by decide) rfl (credit_dst (.ra 1))) $$ HB D_ra1 HO; iintro ⟨B_ra2, HO⟩
  rw [wp_ret]; imodintro
  iapply Hk $$ B_ra2 Ho HO

/-- Part 14 sends it on and waits for the one the other way. -/
theorem part14 (v5 v40 v43) (Kt) (z : List Key) :
    book x dy K ⊢ iprop(carried x dy c (.ra 2) fullShare -∗ ready (.ra 2) c -∗ due (.la 1) c -∗ at_ c (xdue (order.drop 10)) (z) -∗
      (carried x dy c (.ra 2) fullShare.right -∗ sent (.ra 2) c -∗ carried x dy c (.la 2) fullShare -∗ at_ c (xdue (order.drop 11)) (some (.la 1, true) :: z) -∗ Kt ⟨⟩)
      -∗ wpc c (onBufs (k0_part14 (F := F)) c v5 v40 v43) Kt) := by
  simp only [onBufs, k0_part14_eq_skeleton]; unfold k0_part14_skel
  simp only [Prog.lift, Prog.bind_op, Prog.bind_ret, Prog.pure_eq_ret]
  iintro #HB B_ra2 R_ra2 D_la1 HO Hk
  iapply (ring_send x dy K c (.ra 2) 10 rfl rfl (dev14_eq c) rfl rfl rfl rfl) $$ HB B_ra2 R_ra2 HO; iintro ⟨B_ra2, S_ra2, HO⟩
  iapply (recv_step x dy K c (.la 1) (l := xdue (order.drop 11)) (M := srcM (.la 2)) (X := val x dy (.la 2) c) rfl rfl (by decide) rfl (credit_dst (.la 1))) $$ HB D_la1 HO; iintro ⟨B_la2, HO⟩
  rw [wp_ret]; imodintro
  iapply Hk $$ B_ra2 S_ra2 B_la2 HO

/-- Part 15 sends that on, and passes on the second block's next hop. -/
theorem part15 (v5 v24 v27) (Kt) (z : List Key) :
    book x dy K ⊢ iprop(carried x dy c (.la 2) fullShare -∗ ready (.la 2) c -∗ due (.rb 1) c -∗ ready (.rb 2) c -∗ at_ c (xdue (order.drop 11)) (z) -∗
      (∀ j, carried x dy c (.la 2) fullShare.right -∗ sent (.la 2) c -∗ carried x dy c (.rb 2) fullShare.right -∗ sent (.rb 2) c -∗ at_ c (xdue (order.drop 13)) (some (.rb 1, true) :: z) -∗ Kt j)
      -∗ wpc c (onBufs (k0_part15 (F := F)) c v5 v24 v27) Kt) := by
  simp only [onBufs, k0_part15_eq_skeleton]; unfold k0_part15_skel
  simp only [Prog.lift, Prog.bind_op, Prog.bind_ret, Prog.pure_eq_ret]
  iintro #HB B_la2 R_la2 D_rb1 R_rb2 HO Hk
  iapply (ring_send x dy K c (.la 2) 11 rfl rfl (dev15_eq c) rfl rfl rfl rfl) $$ HB B_la2 R_la2 HO; iintro ⟨B_la2, S_la2, HO⟩
  iapply (recv_step x dy K c (.rb 1) (l := xdue (order.drop 12)) (M := srcM (.rb 2)) (X := val x dy (.rb 2) c) rfl rfl (by decide) rfl (credit_dst (.rb 1))) $$ HB D_rb1 HO; iintro ⟨B_rb2, HO⟩
  iapply (ring_send x dy K c (.rb 2) 12 rfl rfl (dev16_eq c) rfl rfl rfl rfl) $$ HB B_rb2 R_rb2 HO; iintro ⟨B_rb2, S_rb2, HO⟩
  rw [wp_ret]; imodintro
  iapply Hk $$ B_la2 S_la2 B_rb2 S_rb2 HO

/-- Part 16 passes on the one the other way and reads an arrived block. -/
theorem part16 (v5 v11 v40 v43 v44) (Kt) (z : List Key) :
    book x dy K ⊢ iprop(due (.lb 1) c -∗ ready (.lb 2) c -∗ carried x dy c (.ra 2) fullShare.right -∗ at_ c (xdue (order.drop 13)) (z) -∗
      (∀ j1 j2, carried x dy c (.lb 2) fullShare.right -∗ sent (.lb 2) c -∗ carried x dy c (.ra 2) fullShare.right -∗ at_ c (xdue (order.drop 14)) (some (.lb 1, true) :: z) -∗ Kt ⟨accA x dy (left^[2] c), j1, j2⟩)
      -∗ wpc c (onBufs (k0_part16 (F := F)) c v5 v11 v40 v43 v44) Kt) := by
  simp only [onBufs, k0_part16_eq_skeleton]; unfold k0_part16_skel
  simp only [Prog.lift, Prog.bind_op, Prog.bind_ret, Prog.pure_eq_ret]
  iintro #HB D_lb1 R_lb2 B_ra2 HO Hk
  iapply (recv_step x dy K c (.lb 1) (l := xdue (order.drop 13)) (M := srcM (.lb 2)) (X := val x dy (.lb 2) c) rfl rfl (by decide) rfl (credit_dst (.lb 1))) $$ HB D_lb1 HO; iintro ⟨B_lb2, HO⟩
  iapply (ring_send x dy K c (.lb 2) 13 rfl rfl (dev17_eq c) rfl rfl rfl rfl) $$ HB B_lb2 R_lb2 HO; iintro ⟨B_lb2, S_lb2, HO⟩
  iapply (slot_get c (2 : Fin 5) (m := srcM (.ra 2)) rfl) $$ B_ra2; iintro %vra2 %hra2 B_ra2
  rw [wp_ret]; imodintro
  rw [← show k0_pay18 vra2 = accA x dy (left^[2] c) from hra2]
  iapply Hk $$ B_lb2 S_lb2 B_ra2 HO

/-- Part 17 stores it and another, and reads a third. -/
theorem part17 (v11 v498 v499) (Kt) (z : List Key) :
    book x dy K ⊢ iprop(carried x dy c (.la 2) fullShare.right -∗ carried x dy c (.rb 2) fullShare.right -∗ outHeld c x dy 6 -∗
      (∀ j1 j2 j3 j4, carried x dy c (.la 2) fullShare.right -∗ carried x dy c (.rb 2) fullShare.right -∗ outHeld c x dy 8 -∗ Kt ⟨accB x dy (left^[2] c), j1, j2, j3, j4⟩)
      -∗ wpc c (onBufs (k0_part17 (F := F)) c v11 (accA x dy (left^[2] c)) v498 v499) Kt) := by
  simp only [onBufs, k0_part17_eq_skeleton]; unfold k0_part17_skel
  simp only [Prog.lift, Prog.bind_op, Prog.bind_ret, Prog.pure_eq_ret]
  iintro #HB B_la2 B_rb2 Ho Hk
  iapply (out_put c x dy 6 6 rfl (off5_eq 6 c) (written c x dy 6).symm) $$ Ho; iintro Ho
  iapply (slot_get c (2 : Fin 4) (m := srcM (.la 2)) rfl) $$ B_la2; iintro %vla2 %hla2 B_la2
  iapply (out_put c x dy 7 7 rfl (off5_eq 7 c) (hla2.trans (written c x dy 7).symm)) $$ Ho; iintro Ho
  iapply (slot_get c (2 : Fin 4) (m := srcM (.rb 2)) rfl) $$ B_rb2; iintro %vrb2 %hrb2 B_rb2
  rw [wp_ret]; imodintro
  rw [← show k0_pay20 vrb2 = accB x dy (left^[2] c) from hrb2]
  iapply Hk $$ B_la2 B_rb2 Ho

/-- Part 18 stores it and a fourth. -/
theorem part18 (v11 v24 v530 v531 v532 v533) (Kt) (z : List Key) :
    book x dy K ⊢ iprop(carried x dy c (.lb 2) fullShare.right -∗ outHeld c x dy 8 -∗
      (∀ j1 j2, carried x dy c (.lb 2) fullShare.right -∗ outHeld c x dy 10 -∗ Kt ⟨j1, j2⟩)
      -∗ wpc c (onBufs (k0_part18 (F := F)) c v11 v24 (accB x dy (left^[2] c)) v530 v531 v532 v533) Kt) := by
  simp only [onBufs, k0_part18_eq_skeleton]; unfold k0_part18_skel
  simp only [Prog.lift, Prog.bind_op, Prog.bind_ret, Prog.pure_eq_ret]
  iintro #HB B_lb2 Ho Hk
  iapply (out_put c x dy 8 8 rfl (off5_eq 8 c) (written c x dy 8).symm) $$ Ho; iintro Ho
  iapply (slot_get c (2 : Fin 5) (m := srcM (.lb 2)) rfl) $$ B_lb2; iintro %vlb2 %hlb2 B_lb2
  iapply (out_put c x dy 9 9 rfl (off5_eq 9 c) (hlb2.trans (written c x dy 9).symm)) $$ Ho; iintro Ho
  rw [wp_ret]; imodintro
  iapply Hk $$ B_lb2 Ho

end Cert.KernelIdeal.Reduce

end
-- ==== Proof.KernelIdeal.Parts3.lean ====
/-
# The body's parts, III

The parts with the last hops, the last stores, and the waits until every transfer has been read.
-/
module

public import proofs.«01_k».proof.Proof.KernelIdeal.Parts2

@[expose] public section

noncomputable section

namespace Cert.KernelIdeal.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (x : Dev nD → Vec F S1024x1024 .f32) (dy : Dev nD → Vec F S1024x4096 .f32) (K : Dev nD × Key → ℕ) (c : Dev nD)

/-- Part 19 passes on the first block's last hop but one. -/
theorem part19 (v5 v24 v27 v40 v43 v563 v564) (Kt) (z : List Key) :
    book x dy K ⊢ iprop(due (.ra 2) c -∗ ready (.ra 3) c -∗ at_ c (xdue (order.drop 14)) (z) -∗
      (carried x dy c (.ra 3) fullShare.right -∗ sent (.ra 3) c -∗ at_ c (xdue (order.drop 15)) (some (.ra 2, true) :: z) -∗ Kt ⟨⟩)
      -∗ wpc c (onBufs (k0_part19 (F := F)) c v5 v24 v27 v40 v43 v563 v564) Kt) := by
  simp only [onBufs, k0_part19_eq_skeleton]; unfold k0_part19_skel
  simp only [Prog.lift, Prog.bind_op, Prog.bind_ret, Prog.pure_eq_ret]
  iintro #HB D_ra2 R_ra3 HO Hk
  iapply (recv_step x dy K c (.ra 2) (l := xdue (order.drop 14)) (M := srcM (.ra 3)) (X := val x dy (.ra 3) c) rfl rfl (by decide) rfl (credit_dst (.ra 2))) $$ HB D_ra2 HO; iintro ⟨B_ra3, HO⟩
  iapply (ring_send x dy K c (.ra 3) 14 rfl rfl (dev18_eq c) rfl rfl rfl rfl) $$ HB B_ra3 R_ra3 HO; iintro ⟨B_ra3, S_ra3, HO⟩
  rw [wp_ret]; imodintro
  iapply Hk $$ B_ra3 S_ra3 HO

/-- Part 20 passes on the second block's, and waits for the last hop the other way. -/
theorem part20 (v5 v40 v43) (Kt) (z : List Key) :
    book x dy K ⊢ iprop(due (.lb 2) c -∗ ready (.lb 3) c -∗ due (.la 2) c -∗ at_ c (xdue (order.drop 15)) (z) -∗
      (carried x dy c (.lb 3) fullShare.right -∗ sent (.lb 3) c -∗ got x dy c (.la 2) -∗ at_ c (xdue (order.drop 16)) (some (.la 2, true) :: some (.lb 2, true) :: z) -∗ Kt ⟨⟩)
      -∗ wpc c (onBufs (k0_part20 (F := F)) c v5 v40 v43) Kt) := by
  simp only [onBufs, k0_part20_eq_skeleton]; unfold k0_part20_skel
  simp only [Prog.lift, Prog.bind_op, Prog.bind_ret, Prog.pure_eq_ret]
  iintro #HB D_lb2 R_lb3 D_la2 HO Hk
  iapply (recv_step x dy K c (.lb 2) (l := xdue (order.drop 15)) (M := srcM (.lb 3)) (X := val x dy (.lb 3) c) rfl rfl (by decide) rfl (credit_dst (.lb 2))) $$ HB D_lb2 HO; iintro ⟨B_lb3, HO⟩
  iapply (ring_send x dy K c (.lb 3) 15 rfl rfl (dev19_eq c) rfl rfl rfl rfl) $$ HB B_lb3 R_lb3 HO; iintro ⟨B_lb3, S_lb3, HO⟩
  iapply (recv_step x dy K c (.la 2) (l := xdue (order.drop 16)) (M := dstM (.la 2)) (X := val x dy (.la 2) (src (.la 2) c)) rfl rfl (by decide) rfl (credit_dst (.la 2))) $$ HB D_la2 HO; iintro ⟨G_la2, HO⟩
  rw [wp_ret]; imodintro
  iapply Hk $$ B_lb3 S_lb3 G_la2 HO

/-- Part 21 waits for its counterpart, stores one block and reads another. -/
theorem part21 (v5 v11 v24 v27) (Kt) (z : List Key) :
    book x dy K ⊢ iprop(due (.rb 2) c -∗ carried x dy c (.ra 3) fullShare.right -∗ carried x dy c (.lb 3) fullShare.right -∗ outHeld c x dy 10 -∗ at_ c (xdue (order.drop 16)) (z) -∗
      (∀ v, ⌜shapeCast S512x256 v numel_slot = accB x dy (right^[3] c)⌝ -∗ got x dy c (.rb 2) -∗ carried x dy c (.ra 3) fullShare.right -∗ carried x dy c (.lb 3) fullShare.right -∗ outHeld c x dy 11 -∗ at_ c (xdue (order.drop 16)) (some (.rb 2, true) :: z) -∗ Kt v)
      -∗ wpc c (onBufs (k0_part21 (F := F)) c v5 v11 v24 v27) Kt) := by
  simp only [onBufs, k0_part21_eq_skeleton]; unfold k0_part21_skel
  simp only [Prog.lift, Prog.bind_op, Prog.bind_ret, Prog.pure_eq_ret]
  iintro #HB D_rb2 B_ra3 B_lb3 Ho HO Hk
  iapply (recv_step x dy K c (.rb 2) (l := xdue (order.drop 16)) (M := dstM (.rb 2)) (X := val x dy (.rb 2) (src (.rb 2) c)) rfl rfl (by decide) rfl (credit_dst (.rb 2))) $$ HB D_rb2 HO; iintro ⟨G_rb2, HO⟩
  iapply (slot_get c (3 : Fin 5) (m := srcM (.ra 3)) rfl) $$ B_ra3; iintro %vra3 %hra3 B_ra3
  iapply (out_put c x dy 10 10 rfl (off5_eq 10 c) (hra3.trans (written c x dy 10).symm)) $$ Ho; iintro Ho
  iapply (slot_get c (3 : Fin 5) (m := srcM (.lb 3)) rfl) $$ B_lb3; iintro %vlb3 %hlb3 B_lb3
  rw [wp_ret]; imodintro
  iapply Hk $$ %vlb3 %hlb3 G_rb2 B_ra3 B_lb3 Ho HO

/-- Part 22 stores it and another. -/
theorem part22 (v11 v655) (Kt) (z : List Key) :
    book x dy K ⊢ iprop(⌜shapeCast S512x256 v655 numel_slot = accB x dy (right^[3] c)⌝ -∗ got x dy c (.la 2) -∗ outHeld c x dy 11 -∗
      (got x dy c (.la 2) -∗ outHeld c x dy 13 -∗ Kt ⟨⟩)
      -∗ wpc c (onBufs (k0_part22 (F := F)) c v11 v655) Kt) := by
  simp only [onBufs, k0_part22_eq_skeleton]; unfold k0_part22_skel
  simp only [Prog.lift, Prog.bind_op, Prog.bind_ret, Prog.pure_eq_ret]
  iintro #HB %hv G_la2 Ho Hk
  iapply (out_put c x dy 11 11 rfl (off5_eq 11 c) ((show k0_pay23 v655 = accB x dy (right^[3] c) from hv).trans (written c x dy 11).symm)) $$ Ho; iintro Ho
  iapply (slot_get c (3 : Fin 4) (m := dstM (.la 2)) rfl) $$ G_la2; iintro %vla3 %hla3 G_la2
  iapply (out_put c x dy 12 12 rfl (off5_eq 12 c) (hla3.trans (written c x dy 12).symm)) $$ Ho; iintro Ho
  rw [wp_ret]; imodintro
  iapply Hk $$ G_la2 Ho

/-- Part 23 stores another and waits for the last hop of the first block, -/
theorem part23 (v5 v11 v24 v27 v40) (Kt) (z : List Key) :
    book x dy K ⊢ iprop(got x dy c (.rb 2) -∗ due (.ra 3) c -∗ outHeld c x dy 13 -∗ at_ c (xdue (order.drop 16)) (z) -∗
      (∀ j, got x dy c (.rb 2) -∗ got x dy c (.ra 3) -∗ outHeld c x dy 14 -∗ at_ c (xdue (order.drop 16)) (some (.ra 3, true) :: z) -∗ Kt j)
      -∗ wpc c (onBufs (k0_part23 (F := F)) c v5 v11 v24 v27 v40) Kt) := by
  simp only [onBufs, k0_part23_eq_skeleton]; unfold k0_part23_skel
  simp only [Prog.lift, Prog.bind_op, Prog.bind_ret, Prog.pure_eq_ret]
  iintro #HB G_rb2 D_ra3 Ho HO Hk
  iapply (slot_get c (3 : Fin 4) (m := dstM (.rb 2)) rfl) $$ G_rb2; iintro %vrb3 %hrb3 G_rb2
  iapply (out_put c x dy 13 13 rfl (off5_eq 13 c) (hrb3.trans (written c x dy 13).symm)) $$ Ho; iintro Ho
  iapply (recv_step x dy K c (.ra 3) (l := xdue (order.drop 16)) (M := dstM (.ra 3)) (X := val x dy (.ra 3) (src (.ra 3) c)) rfl rfl (by decide) rfl (credit_dst (.ra 3))) $$ HB D_ra3 HO; iintro ⟨G_ra3, HO⟩
  rw [wp_ret]; imodintro
  iapply Hk $$ G_rb2 G_ra3 Ho HO

/-- Part 24 and for that of the second, stores one and reads the other. -/
theorem part24 (v5 v11 v43 v718) (Kt) (z : List Key) :
    book x dy K ⊢ iprop(due (.lb 3) c -∗ got x dy c (.ra 3) -∗ outHeld c x dy 14 -∗ at_ c (xdue (order.drop 16)) (z) -∗
      (∀ j1 j2 j3, got x dy c (.ra 3) -∗ got x dy c (.lb 3) -∗ outHeld c x dy 15 -∗ at_ c (xdue (order.drop 16)) (some (.lb 3, true) :: z) -∗ Kt ⟨accB x dy (right^[4] c), j1, j2, j3⟩)
      -∗ wpc c (onBufs (k0_part24 (F := F)) c v5 v11 v43 v718) Kt) := by
  simp only [onBufs, k0_part24_eq_skeleton]; unfold k0_part24_skel
  simp only [Prog.lift, Prog.bind_op, Prog.bind_ret, Prog.pure_eq_ret]
  iintro #HB D_lb3 G_ra3 Ho HO Hk
  iapply (recv_step x dy K c (.lb 3) (l := xdue (order.drop 16)) (M := dstM (.lb 3)) (X := val x dy (.lb 3) (src (.lb 3) c)) rfl rfl (by decide) rfl (credit_dst (.lb 3))) $$ HB D_lb3 HO; iintro ⟨G_lb3, HO⟩
  iapply (slot_get c (4 : Fin 5) (m := dstM (.ra 3)) rfl) $$ G_ra3; iintro %vra4 %hra4 G_ra3
  iapply (out_put c x dy 14 14 rfl (off5_eq 14 c) (hra4.trans (written c x dy 14).symm)) $$ Ho; iintro Ho
  iapply (slot_get c (4 : Fin 5) (m := dstM (.lb 3)) rfl) $$ G_lb3; iintro %vlb4 %hlb4 G_lb3
  rw [wp_ret]; imodintro
  rw [← show k0_pay27 vlb4 = accB x dy (right^[4] c) from hlb4]
  iapply Hk $$ G_ra3 G_lb3 Ho HO

/-- Part 25 makes the last store, and waits until two transfers have been read. -/
theorem part25 (v749 v750 v751) (Kt) (z : List Key) :
    book x dy K ⊢ iprop(outHeld c x dy 15 -∗ sent (.ra 0) c -∗ carried x dy c (.ra 0) fullShare.right -∗ sent (.ra 1) c -∗ carried x dy c (.ra 1) fullShare.right -∗ at_ c [] z -∗
      (outHeld c x dy 16 -∗ held c (srcM (.ra 0)) -∗ held c (srcM (.ra 1)) -∗ at_ c [] (some (.ra 1, false) :: some (.ra 0, false) :: z) -∗ Kt ⟨⟩)
      -∗ wpc c (onBufs (k0_part25 (F := F)) c (accB x dy (right^[4] c)) v749 v750 v751) Kt) := by
  simp only [onBufs, k0_part25_eq_skeleton]; unfold k0_part25_skel
  simp only [Prog.lift, Prog.bind_op, Prog.bind_ret, Prog.pure_eq_ret]
  iintro #HB Ho S_ra0 B_ra0 S_ra1 B_ra1 HO Hk
  iapply (out_put c x dy 15 15 rfl (off5_eq 15 c) (written c x dy 15).symm) $$ Ho; iintro Ho
  iapply (ring_sent x dy K c (.ra 0) rfl rfl (credit_src (.ra 0))) $$ HB S_ra0 B_ra0 HO; iintro ⟨B_ra0, HO⟩
  iapply (ring_sent x dy K c (.ra 1) rfl rfl (credit_src (.ra 1))) $$ HB S_ra1 B_ra1 HO; iintro ⟨B_ra1, HO⟩
  rw [wp_ret]; imodintro
  iapply Hk $$ Ho B_ra0 B_ra1 HO

/-- Part 26 waits for four more, -/
theorem part26 (Kt) (z : List Key) :
    book x dy K ⊢ iprop(sent (.ra 2) c -∗ carried x dy c (.ra 2) fullShare.right -∗ sent (.ra 3) c -∗ carried x dy c (.ra 3) fullShare.right -∗ sent (.la 0) c -∗ carried x dy c (.la 0) fullShare.right -∗ sent (.la 1) c -∗ carried x dy c (.la 1) fullShare.right -∗ at_ c [] z -∗
      (held c (srcM (.ra 2)) -∗ held c (srcM (.ra 3)) -∗ held c (srcM (.la 0)) -∗ held c (srcM (.la 1)) -∗ at_ c [] (some (.la 1, false) :: some (.la 0, false) :: some (.ra 3, false) :: some (.ra 2, false) :: z) -∗ Kt ⟨⟩)
      -∗ wpc c (onBufs (k0_part26 (F := F))) Kt) := by
  simp only [onBufs, k0_part26_eq_skeleton]; unfold k0_part26_skel
  simp only [Prog.lift, Prog.bind_op, Prog.bind_ret, Prog.pure_eq_ret]
  iintro #HB S_ra2 B_ra2 S_ra3 B_ra3 S_la0 B_la0 S_la1 B_la1 HO Hk
  iapply (ring_sent x dy K c (.ra 2) rfl rfl (credit_src (.ra 2))) $$ HB S_ra2 B_ra2 HO; iintro ⟨B_ra2, HO⟩
  iapply (ring_sent x dy K c (.ra 3) rfl rfl (credit_src (.ra 3))) $$ HB S_ra3 B_ra3 HO; iintro ⟨B_ra3, HO⟩
  iapply (ring_sent x dy K c (.la 0) rfl rfl (credit_src (.la 0))) $$ HB S_la0 B_la0 HO; iintro ⟨B_la0, HO⟩
  iapply (ring_sent x dy K c (.la 1) rfl rfl (credit_src (.la 1))) $$ HB S_la1 B_la1 HO; iintro ⟨B_la1, HO⟩
  rw [wp_ret]; imodintro
  iapply Hk $$ B_ra2 B_ra3 B_la0 B_la1 HO

/-- Part 27 for three -/
theorem part27 (Kt) (z : List Key) :
    book x dy K ⊢ iprop(sent (.la 2) c -∗ carried x dy c (.la 2) fullShare.right -∗ sent (.rb 0) c -∗ carried x dy c (.rb 0) fullShare.right -∗ sent (.rb 1) c -∗ carried x dy c (.rb 1) fullShare.right -∗ at_ c [] z -∗
      (held c (srcM (.la 2)) -∗ held c (srcM (.rb 0)) -∗ held c (srcM (.rb 1)) -∗ at_ c [] (some (.rb 1, false) :: some (.rb 0, false) :: some (.la 2, false) :: z) -∗ Kt ⟨⟩)
      -∗ wpc c (onBufs (k0_part27 (F := F))) Kt) := by
  simp only [onBufs, k0_part27_eq_skeleton]; unfold k0_part27_skel
  simp only [Prog.lift, Prog.bind_op, Prog.bind_ret, Prog.pure_eq_ret]
  iintro #HB S_la2 B_la2 S_rb0 B_rb0 S_rb1 B_rb1 HO Hk
  iapply (ring_sent x dy K c (.la 2) rfl rfl (credit_src (.la 2))) $$ HB S_la2 B_la2 HO; iintro ⟨B_la2, HO⟩
  iapply (ring_sent x dy K c (.rb 0) rfl rfl (credit_src (.rb 0))) $$ HB S_rb0 B_rb0 HO; iintro ⟨B_rb0, HO⟩
  iapply (ring_sent x dy K c (.rb 1) rfl rfl (credit_src (.rb 1))) $$ HB S_rb1 B_rb1 HO; iintro ⟨B_rb1, HO⟩
  rw [wp_ret]; imodintro
  iapply Hk $$ B_la2 B_rb0 B_rb1 HO

/-- Part 28 and for another four. -/
theorem part28 (Kt) (z : List Key) :
    book x dy K ⊢ iprop(sent (.rb 2) c -∗ carried x dy c (.rb 2) fullShare.right -∗ sent (.lb 0) c -∗ carried x dy c (.lb 0) fullShare.right -∗ sent (.lb 1) c -∗ carried x dy c (.lb 1) fullShare.right -∗ sent (.lb 2) c -∗ carried x dy c (.lb 2) fullShare.right -∗ at_ c [] z -∗
      (held c (srcM (.rb 2)) -∗ held c (srcM (.lb 0)) -∗ held c (srcM (.lb 1)) -∗ held c (srcM (.lb 2)) -∗ at_ c [] (some (.lb 2, false) :: some (.lb 1, false) :: some (.lb 0, false) :: some (.rb 2, false) :: z) -∗ Kt ⟨⟩)
      -∗ wpc c (onBufs (k0_part28 (F := F))) Kt) := by
  simp only [onBufs, k0_part28_eq_skeleton]; unfold k0_part28_skel
  simp only [Prog.lift, Prog.bind_op, Prog.bind_ret, Prog.pure_eq_ret]
  iintro #HB S_rb2 B_rb2 S_lb0 B_lb0 S_lb1 B_lb1 S_lb2 B_lb2 HO Hk
  iapply (ring_sent x dy K c (.rb 2) rfl rfl (credit_src (.rb 2))) $$ HB S_rb2 B_rb2 HO; iintro ⟨B_rb2, HO⟩
  iapply (ring_sent x dy K c (.lb 0) rfl rfl (credit_src (.lb 0))) $$ HB S_lb0 B_lb0 HO; iintro ⟨B_lb0, HO⟩
  iapply (ring_sent x dy K c (.lb 1) rfl rfl (credit_src (.lb 1))) $$ HB S_lb1 B_lb1 HO; iintro ⟨B_lb1, HO⟩
  iapply (ring_sent x dy K c (.lb 2) rfl rfl (credit_src (.lb 2))) $$ HB S_lb2 B_lb2 HO; iintro ⟨B_lb2, HO⟩
  rw [wp_ret]; imodintro
  iapply Hk $$ B_rb2 B_lb0 B_lb1 B_lb2 HO

end Cert.KernelIdeal.Reduce

end
-- ==== Proof.KernelIdeal.Body.lean ====
/-
# The body

The kernel's body on an arbitrary device, its parts put together: from the protocol's resources and the operands to the
result block, all its transfers done and every semaphore of the protocol back at zero.
-/
module

public import proofs.«01_k».proof.Proof.KernelIdeal.Parts3

@[expose] public section

noncomputable section

namespace Cert.KernelIdeal.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (x : Dev nD → Vec F S1024x1024 .f32) (dy : Dev nD → Vec F S1024x4096 .f32) (K : Dev nD × Key → ℕ) (c : Dev nD)

/-- One of each transfer. -/
theorem each (Φ : Xfer → sProp 𝕄) : bigSep Finset.univ Φ = iprop(Φ .ya ∗ Φ .yb ∗ Φ (.ra 0) ∗ Φ (.la 0) ∗ Φ (.rb 0) ∗ Φ (.lb 0)
    ∗ Φ (.ra 1) ∗ Φ (.la 1) ∗ Φ (.rb 1) ∗ Φ (.lb 1) ∗ Φ (.ra 2) ∗ Φ (.la 2) ∗ Φ (.rb 2) ∗ Φ (.lb 2) ∗ Φ (.ra 3) ∗ Φ (.lb 3)) :=
  bigSep_univ_eq_bigSepL order (by decide) (by decide) Φ

/-- The tokens of transfer `t` that its sender pays with, and where it stands at the send semaphore. -/
def tokens (t : Xfer) (c : Dev nD) : sProp 𝕄 :=
  iprop(dutyTok ER (sendCell c t) 0 .across ∗ dutyTok ER (recvCell (tgt t c) t) 0 .across ∗ atPos ER (sendCell c t) 0 ∅ 0)

/-- With the blocks the neighbours offered, every transfer can be started. -/
theorem all_ready : iprop((bigSep Finset.univ fun t => held (tgt t c) (dstM t)) ∗ (bigSep Finset.univ fun t => tokens t c))
    ⊢ (bigSep Finset.univ fun t => ready t c : sProp 𝕄) := by
  rw [← bigSep_sep']; exact .rfl

/-- The transfers' semaphores, the last one closed first. -/
def closed : List (Xfer × Bool) :=
  [(.yb, false), (.ya, false), (.lb 3, false), (.lb 2, false), (.lb 1, false), (.lb 0, false), (.rb 2, false), (.rb 1, false),
    (.rb 0, false), (.la 2, false), (.la 1, false), (.la 0, false), (.ra 3, false), (.ra 2, false), (.ra 1, false), (.ra 0, false),
    (.lb 3, true), (.ra 3, true), (.rb 2, true), (.la 2, true), (.lb 2, true), (.ra 2, true), (.lb 1, true), (.rb 1, true),
    (.la 1, true), (.ra 1, true), (.lb 0, true), (.rb 0, true), (.la 0, true), (.ra 0, true), (.yb, true), (.ya, true)]

/-- What a device's body starts with. -/
def bodyIn : sProp 𝕄 :=
  iprop((((c : Thread nD τ).loc cc0_stg0_0) ↦{fullShare} x c) ∗ (((c : Thread nD τ).loc cc0_stg1_0) ↦{fullShare} dy c) ∗ outHeld c x dy 0
    ∗ (held c (srcM .ya) ∗ held c (srcM .yb) ∗ held c (srcM (.ra 0)) ∗ held c (srcM (.la 0)) ∗ held c (srcM (.rb 0)) ∗ held c (srcM (.lb 0)))
    ∗ (offer (opp .right) c ∗ offer (opp .left) c ∗ offer (opp .across) c)
    ∗ (dutyTok ER (barCell (nbr .right c)) 0 (opp .right) ∗ dutyTok ER (barCell (nbr .left c)) 0 (opp .left)
      ∗ dutyTok ER (barCell (nbr .across c)) 0 (opp .across) ∗ cred (tallyAt (barCell c) () 3) ∗ atPos ER (barCell c) 0 ∅ 0)
    ∗ (bigSep Finset.univ fun t => tokens t c) ∗ (bigSep Finset.univ fun t => due t c) ∗ at_ c dues [])

/-- What it ends with. -/
def bodyOut : sProp 𝕄 :=
  iprop((((c : Thread nD τ).loc cc0_stg0_0) ↦{fullShare} x c) ∗ (((c : Thread nD τ).loc cc0_stg1_0) ↦{fullShare} dy c)
    ∗ (((c : Thread nD τ).loc cc0_stg2_0) ↦{fullShare} outAll c x dy)
    ∗ (bigSep Finset.univ fun t => held c (srcM t))
    ∗ (held c (dstM .ya) ∗ held c (dstM .yb) ∗ held c (dstM (.ra 3)) ∗ held c (dstM (.la 2)) ∗ held c (dstM (.rb 2)) ∗ held c (dstM (.lb 3)))
    ∗ at_ c [] (closed.map some ++ [none]))

set_option maxHeartbeats 4000000 in
set_option maxRecDepth 20000 in
/-- The body, part after part. -/
theorem sound_body (Kt : PUnit → sProp 𝕄) :
    book x dy K ⊢ iprop(bodyIn x dy c -∗ (bodyOut x dy c -∗ Kt ⟨⟩) -∗ wpc c (onBufs (cc0_body (F := F))) Kt) := by
  simp only [onBufs, wpc, cc0_body_eq_skeleton]; unfold cc0_body_skel bodyIn bodyOut
  iintro #HB ⟨Hx, Hy, Ho, ⟨M_ya, M_yb, M_ra, M_la, M_rb, M_lb⟩, ⟨O1, O2, O3⟩, ⟨T1, T2, T3, Hc, Hat⟩, Htok, Hdue, HO⟩ Hk
  ihave Hdue := (Entails.of_eq (each fun t => due t c)) $$ Hdue
  icases Hdue with ⟨D_ya, D_yb, D_ra0, D_la0, D_rb0, D_lb0, D_ra1, D_la1, D_rb1, D_lb1, D_ra2, D_la2, D_rb2, D_lb2, D_ra3, D_lb3⟩
  ihave HO := (Entails.of_eq (show (at_ c dues [] : sProp 𝕄) = at_ c (.inl .right :: .inl .left :: .inl .across :: xdue (order.drop 0)) [] from rfl)) $$ HO
  rw [wp_bind]; iapply (part1 c _); iintro %v2 %v5 %v8 %v11 %v24 %v27 %v30 %v31 %v32 %v33
  try dsimp only
  rw [wp_bind]; iapply (part2 x dy K c _ _ _ _ _ _ _ _ _ _ _) $$ HB T1 T2 T3 O1 O2 O3 Hc Hat HO; iintro %j2a %j2b %j2c %j2d Hh HO
  try dsimp only
  ihave Hr := (all_ready c) $$ [Hh Htok]
  · isplitl [Hh] <;> iassumption
  ihave Hr := (Entails.of_eq (each fun t => ready t c)) $$ Hr
  icases Hr with ⟨R_ya, R_yb, R_ra0, R_la0, R_rb0, R_lb0, R_ra1, R_la1, R_rb1, R_lb1, R_ra2, R_la2, R_rb2, R_lb2, R_ra3, R_lb3⟩
  rw [wp_bind]; iapply (part3 x dy K c _ _ _ _ _ _ _ _) $$ HB Hx Hy M_ya M_yb R_ya HO; iintro %j3a %j3b Hx Hy S_ya B_yb HO
  try dsimp only
  rw [wp_bind]; iapply (part4 x dy K c _ _ _ _ _ _ _ _ _ _) $$ HB B_yb R_yb D_ya M_ra M_la HO; iintro S_yb G_ya B_ra0 B_la0 HO
  try dsimp only
  rw [wp_bind]; iapply (part5 x dy K c _ _ _ _ _ _ _) $$ HB B_ra0 R_ra0 B_la0 R_la0 Ho HO; iintro %j5 B_ra0 S_ra0 B_la0 S_la0 Ho HO
  try dsimp only
  rw [wp_bind]; iapply (part6 x dy K c _ _ _ _ _ _ _ _ _) $$ HB D_yb M_rb M_lb R_rb0 HO; iintro %j6 G_yb B_rb0 S_rb0 B_lb0 HO
  try dsimp only
  rw [wp_bind]; iapply (part7 x dy K c _ _ _ _ _ _ _ _) $$ HB B_lb0 R_lb0 Ho HO; iintro %j7a %j7b B_lb0 S_lb0 Ho HO
  try dsimp only
  rw [wp_bind]; iapply (part8 x dy K c _ _ _ _ _ _ _ _ _) $$ HB D_ra0 R_ra1 HO; iintro B_ra1 S_ra1 HO
  try dsimp only
  rw [wp_bind]; iapply (part9 x dy K c _ _ _ _ _ _ _) $$ HB D_la0 R_la1 D_rb0 HO; iintro B_la1 S_la1 B_rb1 HO
  try dsimp only
  rw [wp_bind]; iapply (part10 x dy K c _ _ _ _ _ _ _) $$ HB B_rb1 R_rb1 D_lb0 HO; iintro %j10a %j10b B_rb1 S_rb1 B_lb1 HO
  try dsimp only
  rw [wp_bind]; iapply (part11 x dy K c _ _ _ _ _ _) $$ HB B_lb1 R_lb1 B_ra1 B_la1 Ho HO; iintro %j11a %j11b %j11c B_lb1 S_lb1 B_ra1 B_la1 Ho HO
  try dsimp only
  rw [wp_bind]; iapply (part12 x dy K c _ _ _ _ _ []) $$ HB B_rb1 B_lb1 Ho; iintro %j12a %j12b B_rb1 B_lb1 Ho
  try dsimp only
  rw [wp_bind]; iapply (part13 x dy K c _ _ _ _ _ _ _) $$ HB D_ra1 Ho HO; iintro B_ra2 Ho HO
  try dsimp only
  rw [wp_bind]; iapply (part14 x dy K c _ _ _ _ _) $$ HB B_ra2 R_ra2 D_la1 HO; iintro B_ra2 S_ra2 B_la2 HO
  try dsimp only
  rw [wp_bind]; iapply (part15 x dy K c _ _ _ _ _) $$ HB B_la2 R_la2 D_rb1 R_rb2 HO; iintro %j15 B_la2 S_la2 B_rb2 S_rb2 HO
  try dsimp only
  rw [wp_bind]; iapply (part16 x dy K c _ _ _ _ _ _ _) $$ HB D_lb1 R_lb2 B_ra2 HO; iintro %j16a %j16b B_lb2 S_lb2 B_ra2 HO
  try dsimp only
  rw [wp_bind]; iapply (part17 x dy K c _ _ _ _ []) $$ HB B_la2 B_rb2 Ho; iintro %j17a %j17b %j17c %j17d B_la2 B_rb2 Ho
  try dsimp only
  rw [wp_bind]; iapply (part18 x dy K c _ _ _ _ _ _ _ []) $$ HB B_lb2 Ho; iintro %j18a %j18b B_lb2 Ho
  try dsimp only
  rw [wp_bind]; iapply (part19 x dy K c _ _ _ _ _ _ _ _ _) $$ HB D_ra2 R_ra3 HO; iintro B_ra3 S_ra3 HO
  try dsimp only
  rw [wp_bind]; iapply (part20 x dy K c _ _ _ _ _) $$ HB D_lb2 R_lb3 D_la2 HO; iintro B_lb3 S_lb3 G_la2 HO
  try dsimp only
  rw [wp_bind]; iapply (part21 x dy K c _ _ _ _ _ _) $$ HB D_rb2 B_ra3 B_lb3 Ho HO; iintro %v655 %h655 G_rb2 B_ra3 B_lb3 Ho HO
  try dsimp only
  rw [wp_bind]; iapply (part22 x dy K c _ _ _ []) $$ HB %h655 G_la2 Ho; iintro G_la2 Ho
  try dsimp only
  rw [wp_bind]; iapply (part23 x dy K c _ _ _ _ _ _ _) $$ HB G_rb2 D_ra3 Ho HO; iintro %j23 G_rb2 G_ra3 Ho HO
  try dsimp only
  rw [wp_bind]; iapply (part24 x dy K c _ _ _ _ _ _) $$ HB D_lb3 G_ra3 Ho HO; iintro %j24a %j24b %j24c G_ra3 G_lb3 Ho HO
  try dsimp only
  ihave HO := (Entails.of_eq (show (at_ c (xdue (order.drop 16)) _ : sProp 𝕄) = at_ c [] _ from rfl)) $$ HO
  rw [wp_bind]; iapply (part25 x dy K c _ _ _ _ _) $$ HB Ho S_ra0 B_ra0 S_ra1 B_ra1 HO; iintro Ho M_ra0 M_ra1 HO
  try dsimp only
  rw [wp_bind]; iapply (part26 x dy K c _ _) $$ HB S_ra2 B_ra2 S_ra3 B_ra3 S_la0 B_la0 S_la1 B_la1 HO; iintro M_ra2 M_ra3 M_la0 M_la1 HO
  try dsimp only
  rw [wp_bind]; iapply (part27 x dy K c _ _) $$ HB S_la2 B_la2 S_rb0 B_rb0 S_rb1 B_rb1 HO; iintro M_la2 M_rb0 M_rb1 HO
  try dsimp only
  rw [wp_bind]; iapply (part28 x dy K c _ _) $$ HB S_rb2 B_rb2 S_lb0 B_lb0 S_lb1 B_lb1 S_lb2 B_lb2 HO; iintro M_rb2 M_lb0 M_lb1 M_lb2 HO
  try dsimp only
  simp only [Prog.lift, Prog.bind_op, Prog.bind_ret, Prog.pure_eq_ret]
  iapply (ring_sent x dy K c (.lb 3) rfl rfl (credit_src (.lb 3))) $$ HB S_lb3 B_lb3 HO; iintro ⟨M_lb3, HO⟩
  iapply (sent_step x dy K c .ya rfl (credit_src .ya)) $$ HB S_ya HO; iintro ⟨M_ya, HO⟩
  iapply (sent_step x dy K c .yb rfl (credit_src .yb)) $$ HB S_yb HO; iintro ⟨M_yb, HO⟩
  rw [wp_ret]; imodintro
  ihave M_ya := (show (owns (c : Thread nD τ) (srcM .ya) (shr .ya) (val x dy .ya c) : sProp 𝕄) ⊢ held c (srcM .ya) from held_intro c _ _) $$ M_ya
  ihave M_yb := (show (owns (c : Thread nD τ) (srcM .yb) (shr .yb) (val x dy .yb c) : sProp 𝕄) ⊢ held c (srcM .yb) from held_intro c _ _) $$ M_yb
  ihave G_ra3 := (held_intro c (dstM (.ra 3)) _) $$ G_ra3
  ihave G_la2 := (held_intro c (dstM (.la 2)) _) $$ G_la2
  ihave G_rb2 := (held_intro c (dstM (.rb 2)) _) $$ G_rb2
  ihave G_lb3 := (held_intro c (dstM (.lb 3)) _) $$ G_lb3
  ihave Ho := (out_done c x dy) $$ Ho
  rw [each fun t => held c (srcM t)]
  iapply Hk
  iframe
  iexact HO

end Cert.KernelIdeal.Reduce

end
-- ==== Proof.KernelIdeal.Hold.lean ====
/-
# The body as the pipeline runs it

The scratch buffers cut into the blocks that the transfers read and fill and put together again, the semaphores given
back, the operands as staged, and the pipeline's obligation for the body.
-/
module

public import proofs.«01_k».proof.Proof.KernelIdeal.Body
public import proofs.«01_k».proof.Proof.Gen.KernelIdeal.Points

@[expose] public section

noncomputable section

namespace Cert.KernelIdeal.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The scratch buffers -/

section Scratch
variable (c : Dev nD)

/-- A buffer held is its points-to at some contents. -/
theorem held_whole {sh : Shape} (M : Memref sig .tc .vmem sh .f32) (h : M.view.set = Finset.univ) :
    (held c M : sProp 𝕄) ⊣⊢ iprop(∃ f, M.view.loc (c : Thread nD τ) ↦{fullShare} f) := by
  rw [← h]; exact held_eq c M

section Stacks
variable {n : ℕ} (M : Memref sig .tc .vmem (Stack n) .f32)

/-- A stack held is its slots held; -/
theorem slots_of : (held c M : sProp 𝕄) ⊢ bigSep Finset.univ fun j : Fin n => held c (slot M j) := by
  iintro H
  ihave H := (held_eq c M).1 $$ H
  icases H with ⟨%f, H⟩
  iapply (stack_split M c f); iexact H
/-- and back. -/
theorem of_slots : (bigSep Finset.univ fun j : Fin n => held c (slot M j)) ⊢ (held c M : sProp 𝕄) :=
  (stack_join M c fun _ => Classical.choice inferInstance).trans (held_eq c M).2

end Stacks

abbrev five (M : Memref sig .tc .vmem (Stack 5) .f32) : sProp 𝕄 :=
  iprop(held c (slot M 0) ∗ held c (slot M 1) ∗ held c (slot M 2) ∗ held c (slot M 3) ∗ held c (slot M 4))
abbrev four (M : Memref sig .tc .vmem (Stack 4) .f32) : sProp 𝕄 :=
  iprop(held c (slot M 0) ∗ held c (slot M 1) ∗ held c (slot M 2) ∗ held c (slot M 3))
theorem five_eq (M : Memref sig .tc .vmem (Stack 5) .f32) : (bigSep Finset.univ fun j : Fin 5 => held c (slot M j)) = (five c M : sProp 𝕄) :=
  bigSep_univ_eq_bigSepL [0, 1, 2, 3, 4] (by decide) (by decide) _
theorem four_eq (M : Memref sig .tc .vmem (Stack 4) .f32) : (bigSep Finset.univ fun j : Fin 4 => held c (slot M j)) = (four c M : sProp 𝕄) :=
  bigSep_univ_eq_bigSepL [0, 1, 2, 3] (by decide) (by decide) _

/-- The eight scratch buffers. -/
def scratch : sProp 𝕄 :=
  iprop(held c psA ∗ held c psB ∗ held c yrA ∗ held c yrB ∗ held c stRA ∗ held c stLA ∗ held c stRB ∗ held c stLB)

theorem scratch_eq : (Pipeline.scopedRest (Ix := Unit) (Name := ℕ) (U := UU) (Lvl := ℕ) (Val := Elt F) spec0 c : sProp 𝕄) ⊣⊢ scratch c := by
  rw [scopedRest0_eq]; unfold scratch
  constructor
  · iintro ⟨H0, H1, H2, H3, H4, H5, H6, H7⟩
    isplitl [H0]; · iapply (held_whole c psA (View.set_whole _)).2; iexact H0
    isplitl [H1]; · iapply (held_whole c psB (View.set_whole _)).2; iexact H1
    isplitl [H2]; · iapply (held_whole c yrA (View.set_whole _)).2; iexact H2
    isplitl [H3]; · iapply (held_whole c yrB (View.set_whole _)).2; iexact H3
    isplitl [H4]; · iapply (held_whole c stRA (View.set_whole _)).2; iexact H4
    isplitl [H5]; · iapply (held_whole c stLA (View.set_whole _)).2; iexact H5
    isplitl [H6]; · iapply (held_whole c stRB (View.set_whole _)).2; iexact H6
    iapply (held_whole c stLB (View.set_whole _)).2; iexact H7
  · iintro ⟨H0, H1, H2, H3, H4, H5, H6, H7⟩
    isplitl [H0]; · iapply (held_whole c psA (View.set_whole _)).1; iexact H0
    isplitl [H1]; · iapply (held_whole c psB (View.set_whole _)).1; iexact H1
    isplitl [H2]; · iapply (held_whole c yrA (View.set_whole _)).1; iexact H2
    isplitl [H3]; · iapply (held_whole c yrB (View.set_whole _)).1; iexact H3
    isplitl [H4]; · iapply (held_whole c stRA (View.set_whole _)).1; iexact H4
    isplitl [H5]; · iapply (held_whole c stLA (View.set_whole _)).1; iexact H5
    isplitl [H6]; · iapply (held_whole c stRB (View.set_whole _)).1; iexact H6
    iapply (held_whole c stLB (View.set_whole _)).1; iexact H7

/-- What a device keeps of them for its own first blocks, and what it offers its neighbours. -/
def lent : sProp 𝕄 :=
  iprop((held c (srcM .ya) ∗ held c (srcM .yb) ∗ held c (srcM (.ra 0)) ∗ held c (srcM (.la 0)) ∗ held c (srcM (.rb 0)) ∗ held c (srcM (.lb 0)))
    ∗ offer (opp .right) c ∗ offer (opp .left) c ∗ offer (opp .across) c)

/-- The transfers that fill what a device offers on a side. -/
def offs : Side → List Xfer
  | .across => [.ya, .yb]
  | .right => [.ra 0, .ra 1, .ra 2, .ra 3, .rb 0, .rb 1, .rb 2]
  | .left => [.la 0, .la 1, .la 2, .lb 0, .lb 1, .lb 2, .lb 3]
theorem offer_list (s : Side) : (offer s c : sProp 𝕄) = bigSepL (offs s) fun t => held c (dstM t) := by
  have h : (Finset.univ.filter fun t => side t = s) = (offs s).toFinset := by cases s <;> decide
  unfold offer
  rw [h]
  exact bigSep_eq_bigSepL (offs s) (by cases s <;> decide) _
theorem offer_across : (offer .across c : sProp 𝕄) = iprop(held c (dstM .ya) ∗ held c (dstM .yb)) := offer_list c .across
theorem offer_right : (offer .right c : sProp 𝕄) = iprop(held c (dstM (.ra 0)) ∗ held c (dstM (.ra 1)) ∗ held c (dstM (.ra 2)) ∗ held c (dstM (.ra 3))
    ∗ held c (dstM (.rb 0)) ∗ held c (dstM (.rb 1)) ∗ held c (dstM (.rb 2))) := offer_list c .right
theorem offer_left : (offer .left c : sProp 𝕄) = iprop(held c (dstM (.la 0)) ∗ held c (dstM (.la 1)) ∗ held c (dstM (.la 2))
    ∗ held c (dstM (.lb 0)) ∗ held c (dstM (.lb 1)) ∗ held c (dstM (.lb 2)) ∗ held c (dstM (.lb 3))) := offer_list c .left

/-- The scratch buffers, cut up for the body. -/
theorem lent_of : (scratch c : sProp 𝕄) ⊢ lent c := by
  unfold scratch lent
  show _ ⊢ iprop(_ ∗ offer .left c ∗ offer .right c ∗ offer .across c)
  rw [offer_across, offer_right, offer_left]
  iintro ⟨Ha, Hb, Hya, Hyb, HRA, HLA, HRB, HLB⟩
  ihave HRA := ((slots_of c stRA).trans (Entails.of_eq (five_eq c stRA))) $$ HRA
  ihave HLA := ((slots_of c stLA).trans (Entails.of_eq (four_eq c stLA))) $$ HLA
  ihave HRB := ((slots_of c stRB).trans (Entails.of_eq (four_eq c stRB))) $$ HRB
  ihave HLB := ((slots_of c stLB).trans (Entails.of_eq (five_eq c stLB))) $$ HLB
  icases HRA with ⟨A0, A1, A2, A3, A4⟩
  icases HLA with ⟨B0, B1, B2, B3⟩
  icases HRB with ⟨C0, C1, C2, C3⟩
  icases HLB with ⟨D0, D1, D2, D3, D4⟩
  isplitl [Ha Hb A0 B0 C0 D0]
  · isplitl [Ha]; · iexact Ha
    isplitl [Hb]; · iexact Hb
    isplitl [A0]; · iexact A0
    isplitl [B0]; · iexact B0
    isplitl [C0] <;> [iexact C0; iexact D0]
  isplitl [B1 B2 B3 D1 D2 D3 D4]
  · isplitl [B1]; · iexact B1
    isplitl [B2]; · iexact B2
    isplitl [B3]; · iexact B3
    isplitl [D1]; · iexact D1
    isplitl [D2]; · iexact D2
    isplitl [D3] <;> [iexact D3; iexact D4]
  isplitl [A1 A2 A3 A4 C1 C2 C3]
  · isplitl [A1]; · iexact A1
    isplitl [A2]; · iexact A2
    isplitl [A3]; · iexact A3
    isplitl [A4]; · iexact A4
    isplitl [C1]; · iexact C1
    isplitl [C2] <;> [iexact C2; iexact C3]
  isplitl [Hya] <;> [iexact Hya; iexact Hyb]

/-- The blocks a device holds at the end: those it sent from, and the ones it filled last. -/
def back : sProp 𝕄 :=
  iprop((bigSep Finset.univ fun t => held c (srcM t))
    ∗ (held c (dstM .ya) ∗ held c (dstM .yb) ∗ held c (dstM (.ra 3)) ∗ held c (dstM (.la 2)) ∗ held c (dstM (.rb 2)) ∗ held c (dstM (.lb 3))))

/-- They are the scratch buffers again. -/
theorem of_back : (back c : sProp 𝕄) ⊢ scratch c := by
  unfold scratch back
  rw [each fun t => held c (srcM t)]
  iintro ⟨⟨Ha, Hb, A0, B0, C0, D0, A1, B1, C1, D1, A2, B2, C2, D2, A3, D3⟩, Hya, Hyb, A4, B3, C3, D4⟩
  isplitl [Ha]; · iexact Ha
  isplitl [Hb]; · iexact Hb
  isplitl [Hya]; · iexact Hya
  isplitl [Hyb]; · iexact Hyb
  isplitl [A0 A1 A2 A3 A4]
  · iapply ((Entails.of_eq (five_eq c stRA).symm).trans (of_slots c stRA))
    isplitl [A0]; · iexact A0
    isplitl [A1]; · iexact A1
    isplitl [A2]; · iexact A2
    isplitl [A3] <;> [iexact A3; iexact A4]
  isplitl [B0 B1 B2 B3]
  · iapply ((Entails.of_eq (four_eq c stLA).symm).trans (of_slots c stLA))
    isplitl [B0]; · iexact B0
    isplitl [B1]; · iexact B1
    isplitl [B2] <;> [iexact B2; iexact B3]
  isplitl [C0 C1 C2 C3]
  · iapply ((Entails.of_eq (four_eq c stRB).symm).trans (of_slots c stRB))
    isplitl [C0]; · iexact C0
    isplitl [C1]; · iexact C1
    isplitl [C2] <;> [iexact C2; iexact C3]
  iapply ((Entails.of_eq (five_eq c stLB).symm).trans (of_slots c stLB))
  isplitl [D0]; · iexact D0
  isplitl [D1]; · iexact D1
  isplitl [D2]; · iexact D2
  isplitl [D3] <;> [iexact D3; iexact D4]

/-- The cells closed, the barrier's apart. -/
theorem zeros_apart (l : List (Xfer × Bool)) (h : l.Nodup) :
    (zeros c (l.map some ++ [none]) : sProp 𝕄) ⊢ iprop((bigSep l.toFinset fun k => semVal ((c : Thread nD τ), osem k) 0) ∗ semVal (barCell c) 0) := by
  induction l with
  | nil =>
    show iprop(semVal (barCell c) 0 ∗ emp) ⊢ _
    rw [List.toFinset_nil]
    iintro ⟨H, -⟩
    isplitr; · rw [BI.bigSep_empty]; iempintro
    iexact H
  | cons k l ih =>
    obtain ⟨hk, hl⟩ := List.nodup_cons.mp h
    rw [List.toFinset_cons, BI.bigSep_insert (fun hm => hk (List.mem_toFinset.mp hm))]
    show iprop(semVal ((c : Thread nD τ), osem k) 0 ∗ zeros c (l.map some ++ [none]))
      ⊢ iprop((semVal ((c : Thread nD τ), osem k) 0 ∗ bigSep l.toFinset fun k => semVal ((c : Thread nD τ), osem k) 0) ∗ semVal (barCell c) 0)
    iintro ⟨H, Hz⟩
    ihave Hz := (ih hl) $$ Hz
    icases Hz with ⟨Hz, Hb⟩
    isplitr [Hb]
    · isplitl [H] <;> iassumption
    iexact Hb

theorem zeros_closed : (zeros c (closed.map some ++ [none]) : sProp 𝕄)
    ⊢ iprop((bigSep Finset.univ fun k => semVal ((c : Thread nD τ), osem k) 0) ∗ semVal (barCell c) 0) := by
  rw [show (Finset.univ : Finset (Xfer × Bool)) = closed.toFinset from by decide]
  exact zeros_apart c closed (by decide)

end Scratch

/-! ## The pipeline's data -/

variable (m : (ℓ : Loc nD τ sig) → Buf (Elt F) ℓ) (ρ : Dev nD → PrngReg)

def s₀ : MemSt nD τ sig (Elt F) := ⟨m, fun _ => 0, ρ⟩

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The operands as a device finds them staged. -/
def xs (c : Dev nD) : (cc0_stg0_0 : Ref sig .tc).ty.Contents (Elt F) :=
  (win0_0.blk (0 : Fin 1)).view.read (Elt F) ((s₀ m ρ).mem ((c : Thread nD τ).loc main_arg0))
def ds (c : Dev nD) : (cc0_stg1_0 : Ref sig .tc).ty.Contents (Elt F) :=
  (win0_1.blk (0 : Fin 1)).view.read (Elt F) ((s₀ m ρ).mem ((c : Thread nD τ).loc main_arg1))

/-- What the launch deals device `c`. -/
def dealt (c : Dev nD) : sProp 𝕄 :=
  iprop((dutyTok ER (barCell (nbr .right c)) 0 (opp .right) ∗ dutyTok ER (barCell (nbr .left c)) 0 (opp .left)
      ∗ dutyTok ER (barCell (nbr .across c)) 0 (opp .across) ∗ cred (tallyAt (barCell c) () 3) ∗ atPos ER (barCell c) 0 ∅ 0)
    ∗ (bigSep Finset.univ fun t => tokens t c) ∗ (bigSep Finset.univ fun t => due t c))
/-- What the body starts from, -/
def start (c : Dev nD) : sProp 𝕄 := iprop((∃ K, book (xs m ρ) (ds m ρ) K) ∗ dealt c)
def Φ₀ (c : Dev nD) : sProp 𝕄 := iprop(start m ρ c ∗ lent c)
/-- and what it leaves. -/
def Φ₁ (c : Dev nD) : sProp 𝕄 := iprop(back c ∗ zeros c (closed.map some ++ [none]))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m ρ c
    | ⟨1, _⟩ => ds m ρ c
    | ⟨2, _⟩ => outAll c (xs m ρ) (ds m ρ)
  Φ t := match t with
    | ⟨0, _⟩ => Φ₀ m ρ c
    | ⟨_ + 1, _⟩ => Φ₁ c
  q _ := fullShare
  owed t := match t with
    | ⟨0, _⟩ => owing c dues
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

set_option maxRecDepth 4000 in
def bodyPost (c : Dev nD) : sProp 𝕄 :=
  iprop(Φ₁ c ∗ (dats m ρ 0 c).owesAt () t₀.succ ∗ stg c cc0_stg0_0 (xs m ρ c) ∗ stg c cc0_stg1_0 (ds m ρ c)
    ∗ stg c cc0_stg2_0 (outAll c (xs m ρ) (ds m ρ)))

/-- The body from what the pipeline holds before the point to what it holds after it. -/
theorem body_at (c : Dev nD) : bodyPre m ρ c ⊢ wpc c (onBufs (cc0_body (F := F))) fun _ => bodyPost m ρ c := by
  unfold bodyPre Φ₀ start dealt lent
  iintro ⟨⟨⟨⟨%K, #HB⟩, Hbar, Htok, Hdue⟩, Hown, Hoff⟩, Ho, ⟨%d0, %g0, %hg0, Hx⟩, ⟨%d1, %g1, %hg1, Hy⟩, ⟨%d2, %g2, %hg2, Hout⟩⟩
  have hx : g0 = xs m ρ c := by rw [hg0]; unfold Dat.before; rw [if_pos (fetch0_0 t₀)]; rfl
  have hy : g1 = ds m ρ c := by rw [hg1]; unfold Dat.before; rw [if_pos (fetch0_1 t₀)]; rfl
  subst hx hy
  unfold Dat.owesAt Pipeline.owesWithin
  icases Ho with ⟨%W, %hW, HO⟩
  rw [show (dats m ρ 0 c).owed t₀.castSucc = owing c dues from rfl]
  iapply (sound_body (xs m ρ) (ds m ρ) K c fun _ => bodyPost m ρ c) $$ HB [Hx Hy Hout Hown Hoff Hbar Htok Hdue HO] []
  · unfold bodyIn
    isplitl [Hx]; · iexact Hx
    isplitl [Hy]; · iexact Hy
    isplitl [Hout]
    · unfold outHeld
      iexists g2
      isplitr; · ipureintro; exact fun r hr => absurd hr (Nat.not_lt_zero _)
      iexact Hout
    isplitl [Hown]; · iexact Hown
    isplitl [Hoff]; · iexact Hoff
    isplitl [Hbar]; · iexact Hbar
    isplitl [Htok]; · iexact Htok
    isplitl [Hdue]; · iexact Hdue
    unfold at_
    isplitl [HO]; · iexists W; iexact HO
    iapply (show (iprop(emp) : sProp 𝕄) ⊢ zeros c [] from .rfl)
    iempintro
  · unfold bodyOut at_ bodyPost Φ₁ back Dat.owesAt Pipeline.owesWithin
    iintro ⟨Hx, Hy, Hout, Hsrc, Hdst, ⟨%W', HO⟩, Hz⟩
    isplitl [Hsrc Hdst Hz]
    · isplitl [Hsrc Hdst]
      · isplitl [Hsrc] <;> iassumption
      iexact Hz
    isplitl [HO]
    · iexists W'
      isplitr; · ipureintro; exact fun _ _ => Or.inl trivial
      iexact HO
    isplitl [Hx]
    · iexists _; isplitr; · (ipureintro; rfl)
      iexact Hx
    isplitl [Hy]
    · iexists _; isplitr; · (ipureintro; rfl)
      iexact Hy
    iexists _; isplitr; · (ipureintro; rfl)
    iexact Hout

set_option maxRecDepth 100000 in
/-- The pipeline's obligation for the body. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre m ρ c ⊢ wpc c (onBufs (cc0_body (F := F))) fun _ => bodyPost m ρ c
  exact body_at m ρ c

end Cert.KernelIdeal.Reduce

end
-- ==== Proof.KernelIdeal.Deal.lean ====
/-
# What the launch deals

The protocol's cells and duty tokens as the launch mints them, the step that opens every cell's invariant and deals
each token to the device that pays with it, and the credit that what the devices owe at the launch comes to.
-/
module

public import proofs.«01_k».proof.Proof.KernelIdeal.Body
public import Idealize.ShloMosaic.Lib.Pipeline.Launch
public import Idealize.ShloMosaic.Lib.Pipeline.Kit

@[expose] public section

noncomputable section

namespace Cert.KernelIdeal.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (x : Dev nD → Vec F S1024x1024 .f32) (dy : Dev nD → Vec F S1024x4096 .f32)

/-! ## Cells and tokens -/

theorem kcell_inj : Function.Injective fun ck : Dev nD × Key => kcell ck.1 ck.2 := by
  rintro ⟨c, k⟩ ⟨c', k'⟩ h
  have h1 : c = c' := congrArg (fun g : GSem nD τ sig => g.1.1) h
  have h2 : k = k' := ksem_injective (congrArg Prod.snd h)
  rw [h1, h2]
def cells : Finset (GSem nD τ sig) := Finset.univ.map ⟨fun ck : Dev nD × Key => kcell ck.1 ck.2, kcell_inj⟩

/-- A device's own cells' duties: its barrier's three, and one for each transfer semaphore. -/
abbrev Duty : Type := Side ⊕ (Xfer × Bool)
def dutyKey : Duty → Key × Side
  | .inl s => (none, s) | .inr k => (some k, .across)
theorem dutyKey_inj : Function.Injective dutyKey := by
  rintro (s | k) (s' | k') h
  · exact congrArg Sum.inl (congrArg Prod.snd h)
  · exact absurd (congrArg Prod.fst h) (by simp [dutyKey])
  · exact absurd (congrArg Prod.fst h) (by simp [dutyKey])
  · exact congrArg Sum.inr (Option.some.inj (congrArg Prod.fst h))
def tokenOf (cd : Dev nD × Duty) : GSem nD τ sig × ℕ × Side := (kcell cd.1 (dutyKey cd.2).1, 0, (dutyKey cd.2).2)
theorem tokenOf_inj : Function.Injective tokenOf := by
  rintro ⟨c, d⟩ ⟨c', d'⟩ h
  have h1 := kcell_inj (a₁ := (c, (dutyKey d).1)) (a₂ := (c', (dutyKey d').1)) (congrArg (fun p : GSem nD τ sig × ℕ × Side => p.1) h)
  have h2 : (dutyKey d).2 = (dutyKey d').2 := congrArg (fun p : GSem nD τ sig × ℕ × Side => p.2.2) h
  rw [show c = c' from congrArg Prod.fst h1, dutyKey_inj (Prod.ext (congrArg Prod.snd h1) h2)]
def minted : Finset (GSem nD τ sig × ℕ × Side) := Finset.univ.map ⟨tokenOf, tokenOf_inj⟩

/-- The launch's element: the pipeline's, and the protocol's. -/
def u₀ : UU :=
  (initOf (Pipeline.cells cfgs cellOf_inj) (Pipeline.launchToks cfgs cellOf_inj), initOf cells minted)

/-- The tokens of a device's own cells. -/
def ownToks (c : Dev nD) : sProp 𝕄 :=
  bigSep Finset.univ fun d : Duty => dutyTok ER (kcell c (dutyKey d).1) 0 (dutyKey d).2

/-- What the launch's element gives device `c`. -/
def G (c : Dev nD) : sProp 𝕄 :=
  iprop((bigSep Finset.univ fun k : Key => roundState ER (sched x dy) (kcell c k) 0)
    ∗ (bigSep Finset.univ fun k : Key => iprop(atPos ER (kcell c k) 0 ∅ 0 ∗ reached ER (kcell c k) 0)) ∗ ownToks c)

theorem fund_cells : BI.own (ER (initOf cells minted)) ⊢ (|==> bigSep Finset.univ (G x dy) : sProp 𝕄) := by
  have hX (Φ : GSem nD τ sig → sProp 𝕄) : bigSep cells Φ = bigSep Finset.univ fun c : Dev nD => bigSep Finset.univ fun k : Key => Φ (kcell c k) := by
    unfold cells; rw [bigSep_map, bigSep_univ_prod]; rfl
  have hT : bigSep minted (fun p => (dutyTok ER p.1 p.2.1 p.2.2 : sProp 𝕄)) = bigSep Finset.univ fun c : Dev nD => ownToks c := by
    unfold minted; rw [bigSep_map, bigSep_univ_prod]; rfl
  iintro HX
  imod (Rounds.fund ER (sched x dy) cells minted) $$ HX with ⟨Hst, Hr, Hat, Htok⟩
  imodintro
  ihave Hst' := (Entails.of_eq (hX fun g => roundState ER (sched x dy) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The barrier's key and the transfers' apart -/

theorem univ_key : (Finset.univ : Finset Key) = insert none (Finset.univ.map ⟨some, Option.some_injective _⟩) := by
  ext k; cases k <;> simp

theorem keys_apart (Φ : Key → sProp 𝕄) : bigSep Finset.univ Φ = iprop(Φ none ∗ bigSep Finset.univ fun k => Φ (some k)) := by
  rw [univ_key, BI.bigSep_insert (by simp), bigSep_map]; rfl

theorem both (Φ : Xfer × Bool → sProp 𝕄) :
    bigSep Finset.univ Φ = iprop((bigSep Finset.univ fun t => Φ (t, false)) ∗ bigSep Finset.univ fun t => Φ (t, true)) := by
  rw [bigSep_univ_prod, bigSep_congr fun t _ => (bigSep_univ_eq_bigSepL [false, true] (by decide) (by decide) fun b => Φ (t, b))]
  exact bigSep_sep' _ _ _

theorem three (Φ : Side → sProp 𝕄) : bigSep Finset.univ Φ = iprop(Φ .right ∗ Φ .left ∗ Φ .across) :=
  bigSep_univ_eq_bigSepL sides (by decide) (by decide) Φ

/-- The barrier semaphore is the one the launch leaves unscoped. -/
theorem unscoped_eq (c : Dev nD) : (unscopedSems0 c : sProp 𝕄) = semVal (barCell c) 0 := by
  unfold unscopedSems0; rw [bigSep_eq_bigSepL_of_eq [SemLoc.reg barS] (by decide) (by decide)]; rfl

/-! ## The global step -/

/-- Device `c`'s cells opened. -/
theorem open_cells (c : Dev nD) :
    iprop(Pipeline.ownSems0 (Ix := Unit) (Name := ℕ) (U := UU) (Lvl := ℕ) (Val := Elt F) (τ := τ) osem c ∗ unscopedSems0 c ∗ G x dy c)
      ⊢ |={Set.univ}=> iprop((bigSep Finset.univ fun k => iprop(∃ κ : ℕ, cellInv ER (sched x dy) κ (kcell c k)))
          ∗ (bigSep Finset.univ fun k => iprop(atPos ER (kcell c k) 0 ∅ 0 ∗ reached ER (kcell c k) 0)) ∗ ownToks c) := by
  unfold G Pipeline.ownSems0
  rw [unscoped_eq]
  iintro ⟨Hos, Hus, Hst, Hat, Htok⟩
  ihave Hv := (Entails.of_eq (keys_apart fun k => (semVal (kcell c k) 0 : sProp 𝕄)).symm) $$ [Hos Hus]
  · isplitl [Hus]; · iexact Hus
    iexact Hos
  imod (show iprop((bigSep Finset.univ fun k : Key => semVal (kcell c k) 0) ∗ bigSep Finset.univ fun k : Key => roundState ER (sched x dy) (kcell c k) 0)
      ⊢ (|={Set.univ}=> bigSep Finset.univ fun k => iprop(∃ κ : ℕ, cellInv ER (sched x dy) κ (kcell c k)) : sProp 𝕄) from by
        rw [← bigSep_sep']
        exact (bigSep_mono fun k _ => (Rounds.body_intro ER (sched x dy) (kcell c k)).trans inv_alloc).trans (bigSep_fupd _ _)) $$ [Hv Hst] with Hinv
  · isplitl [Hv] <;> iassumption
  imodintro
  isplitl [Hinv]; · iexact Hinv
  isplitl [Hat]; · iexact Hat
  iexact Htok

/-- The tokens device `c` pays with: its neighbours' barriers', and for each transfer those of the two semaphores it signals. -/
def payToks (c : Dev nD) : sProp 𝕄 :=
  iprop((bigSep Finset.univ fun s => dutyTok ER (barCell (nbr s c)) 0 (opp s))
    ∗ (bigSep Finset.univ fun t => dutyTok ER (sendCell c t) 0 .across) ∗ bigSep Finset.univ fun t => dutyTok ER (recvCell (tgt t c) t) 0 .across)

theorem ownToks_eq (c : Dev nD) : (ownToks c : sProp 𝕄) = iprop((bigSep Finset.univ fun s => dutyTok ER (barCell c) 0 s)
    ∗ (bigSep Finset.univ fun t => dutyTok ER (sendCell c t) 0 .across) ∗ bigSep Finset.univ fun t => dutyTok ER (recvCell c t) 0 .across) := by
  unfold ownToks; rw [BI.bigSep_univ_sum, both]; rfl

/-- A barrier token is named from the other end, -/
def flip : Dev nD × Side ≃ Dev nD × Side where
  toFun p := (nbr p.2 p.1, opp p.2)
  invFun p := (nbr p.2 p.1, opp p.2)
  left_inv p := Prod.ext (nbr_opp' p.2 p.1) (opp_opp p.2)
  right_inv p := Prod.ext (nbr_opp' p.2 p.1) (opp_opp p.2)
/-- a receive token from the sender's. -/
def ahead : Dev nD × Xfer ≃ Dev nD × Xfer where
  toFun p := (tgt p.2 p.1, p.2)
  invFun p := (src p.2 p.1, p.2)
  left_inv p := Prod.ext (nbr_opp' _ _) rfl
  right_inv p := Prod.ext (nbr_opp _ _) rfl

/-- The tokens dealt around. -/
theorem toks_dealt : (bigSep Finset.univ fun c : Dev nD => (ownToks c : sProp 𝕄)) ⊢ bigSep Finset.univ fun c : Dev nD => payToks c := by
  have h1 : (bigSep Finset.univ fun c : Dev nD => bigSep Finset.univ fun s => (dutyTok ER (barCell c) 0 s : sProp 𝕄))
      = bigSep Finset.univ fun c : Dev nD => bigSep Finset.univ fun s => dutyTok ER (barCell (nbr s c)) 0 (opp s) := by
    rw [← bigSep_univ_prod fun p : Dev nD × Side => (dutyTok ER (barCell p.1) 0 p.2 : sProp 𝕄),
      ← bigSep_univ_prod fun p : Dev nD × Side => (dutyTok ER (barCell (nbr p.2 p.1)) 0 (opp p.2) : sProp 𝕄)]
    exact BI.bigSep_univ_equiv flip _
  have h2 : (bigSep Finset.univ fun c : Dev nD => bigSep Finset.univ fun t => (dutyTok ER (recvCell c t) 0 .across : sProp 𝕄))
      = bigSep Finset.univ fun c : Dev nD => bigSep Finset.univ fun t => dutyTok ER (recvCell (tgt t c) t) 0 .across := by
    rw [← bigSep_univ_prod fun p : Dev nD × Xfer => (dutyTok ER (recvCell p.1 p.2) 0 .across : sProp 𝕄),
      ← bigSep_univ_prod fun p : Dev nD × Xfer => (dutyTok ER (recvCell (tgt p.2 p.1) p.2) 0 .across : sProp 𝕄)]
    exact BI.bigSep_univ_equiv ahead _
  rw [bigSep_congr fun c _ => ownToks_eq c]
  unfold payToks
  rw [bigSep_sep', bigSep_sep', bigSep_sep', bigSep_sep', h1, h2]

/-- What stays with device `c`: its positions and the tokens it pays with. -/
def lone (c : Dev nD) : sProp 𝕄 := iprop((bigSep Finset.univ fun k => atPos ER (kcell c k) 0 ∅ 0) ∗ payToks c)
/-- What the global step makes: the cells' records, and that. -/
def G' (c : Dev nD) : sProp 𝕄 := iprop(∃ K, (invs x dy K ∗ reach) ∗ lone c)

theorem regroup :
    (bigSep Finset.univ fun c : Dev nD => iprop((bigSep Finset.univ fun k => iprop(∃ κ : ℕ, cellInv ER (sched x dy) κ (kcell c k)))
          ∗ (bigSep Finset.univ fun k => iprop(atPos ER (kcell c k) 0 ∅ 0 ∗ reached ER (kcell c k) 0)) ∗ ownToks c) : sProp 𝕄)
      ⊢ bigSep Finset.univ (G' x dy) := by
  rw [bigSep_sep', bigSep_sep', ← bigSep_univ_prod (fun ck : Dev nD × Key => iprop(∃ κ : ℕ, cellInv ER (sched x dy) κ (kcell ck.1 ck.2))),
    bigSep_congr (s := Finset.univ) (fun (c : Dev nD) _ => bigSep_sep' Finset.univ (fun k : Key => (atPos ER (kcell c k) 0 ∅ 0 : sProp 𝕄)) (fun k => reached ER (kcell c k) 0)),
    bigSep_sep', ← bigSep_univ_prod (fun ck : Dev nD × Key => (reached ER (kcell ck.1 ck.2) 0 : sProp 𝕄))]
  iintro ⟨HI, ⟨Hat, #HR⟩, Htok⟩
  ihave HK := (BI.bigSep_exists_pi Finset.univ (fun (ck : Dev nD × Key) (κ : ℕ) => (cellInv ER (sched x dy) κ (kcell ck.1 ck.2) : sProp 𝕄))) $$ HI
  icases HK with ⟨%K, #HI⟩
  ihave Htk := (toks_dealt (F := F)) $$ Htok
  iapply (show iprop((invs x dy K ∗ reach) ∗ bigSep Finset.univ fun c => lone c) ⊢ bigSep Finset.univ (G' x dy) from
    (sep_mono_left (BI.bigSep_of_persistent Finset.univ iprop(invs x dy K ∗ reach))).trans (by
      rw [← bigSep_sep']
      refine bigSep_mono fun c _ => ?_
      show iprop((invs x dy K ∗ reach) ∗ lone c) ⊢ G' x dy c
      unfold G'; iintro H; iexists K; iexact H))
  isplitr
  · unfold invs reach; isplitl; · iexact HI
    iexact HR
  unfold lone
  iapply (Entails.of_eq (bigSep_sep' Finset.univ (fun c : Dev nD => bigSep Finset.univ fun k : Key => (atPos ER (kcell c k) 0 ∅ 0 : sProp 𝕄)) payToks).symm)
  isplitl [Hat]; · iexact Hat
  iexact Htk

theorem glob : (bigSep Finset.univ fun c => iprop(Pipeline.ownSems0 (Ix := Unit) (Name := ℕ) (U := UU) (Lvl := ℕ) (Val := Elt F) (τ := τ) osem c ∗ unscopedSems0 c ∗ G x dy c) : sProp 𝕄)
    ⊢ |={Set.univ}=> bigSep Finset.univ (G' x dy) :=
  ((bigSep_mono fun c _ => open_cells x dy c).trans (bigSep_fupd _ _)).trans (BI.fupd_mono (regroup x dy))

/-! ## The launch's credit -/

/-- What a list of dues holds for a key. -/
def dueSum : List Due → Key → ℕ
  | [], _ => 0
  | q :: l, k => dueSum l k + if dueKey q = k then dueAmt q else 0

/-- Every device owing the same list, a cell is owed that much in all: each due comes to it from one device. -/
theorem owed_total (l : List Due) (c : Dev nD) (k : Key) : (∑ d : Dev nD, owing d l (kcell c k) ()) = dueSum l k := by
  induction l with
  | nil => exact Finset.sum_eq_zero fun _ _ => rfl
  | cons q l ih =>
    have h (d : Dev nD) : owing d (q :: l) (kcell c k) ()
        = owing d l (kcell c k) () + if d = nbr (opp (dueSide q)) c then (if dueKey q = k then dueAmt q else 0) else 0 := by
      show (owing d l + tallyAt (kcell (nbr (dueSide q) d) (dueKey q)) () (dueAmt q)) (kcell c k) () = _
      rw [Pi.add_apply, Finsupp.add_apply, tallyAt_apply, ← ite_and]
      congr 1
      refine if_congr ⟨fun e => ?_, fun e => ?_⟩ rfl rfl
      · have e' := kcell_inj (a₁ := (c, k)) (a₂ := (nbr (dueSide q) d, dueKey q)) e.1
        exact ⟨by rw [show c = nbr (dueSide q) d from congrArg Prod.fst e', nbr_opp'], (congrArg Prod.snd e').symm⟩
      · rw [e.1, e.2, nbr_opp]; exact ⟨rfl, rfl⟩
    rw [Finset.sum_congr rfl fun d _ => h d, Finset.sum_add_distrib, ih, Finset.sum_ite_eq' Finset.univ (nbr (opp (dueSide q)) c) fun _ => _,
      if_pos (Finset.mem_univ _)]
    rfl

theorem due_bar : dueSum dues none = 3 := by
  simp [dueSum, dues, sides, order, dueKey, dueAmt]
theorem due_recv (t : Xfer) : dueSum dues (some (t, true)) = N := by
  revert t
  have h : ∀ t ∈ order, dueSum dues (some (t, true)) = N := by
    simp [dueSum, dues, sides, order, dueKey, dueAmt]
  exact fun t => h t (order_mem t)

theorem launch_key (c : Dev nD) (k : Key) :
    tallyOn (kcell c k) (launchCredit (Pipeline.owing fun d => owing d dues) 0 (kcell c k))
      = (tallyAt (kcell c k) () (dueSum dues k) : CellTallies nD τ sig Unit) := by
  unfold tallyAt; refine congrArg _ (Finsupp.ext fun u => ?_); cases u
  rw [Pipeline.launchCredit_owing, Finsupp.single_eq_same, owed_total]

/-- What the devices owe at the launch is the credit for the three signals and the sixteen transfers a device waits for. -/
theorem credits (c : Dev nD) : (Pipeline.launchCred (fun d => owing d dues) c : sProp 𝕄)
    ⊢ iprop(cred (tallyAt (barCell c) () 3) ∗ bigSep Finset.univ fun t => cred (tallyAt (recvCell c t) () N)) := by
  have hb := launch_key c none
  rw [due_bar] at hb
  have hr (t : Xfer) := launch_key c (some (t, true))
  unfold Pipeline.launchCred
  have hk : Function.Injective fun t : Xfer => ksem (some (t, true)) := fun t t' h =>
    congrArg Prod.fst (Option.some.inj (ksem_injective h))
  refine (Entails.of_eq (bigSep_univ_at _ (ksem none))).trans (BI.sep_mono (Entails.of_eq (congrArg cred hb)) ?_)
  refine (BI.bigSep_subset (t := Finset.univ.map ⟨_, hk⟩) fun s hs => ?_).trans ((Entails.of_eq (bigSep_map _)).trans (bigSep_mono fun t _ => ?_))
  · obtain ⟨t, -, rfl⟩ := Finset.mem_map.mp hs
    exact Finset.mem_erase.mpr ⟨fun h => absurd (ksem_injective (a₁ := some (t, true)) (a₂ := none) h) (Option.some_ne_none _), Finset.mem_univ _⟩
  · have := hr t
    rw [due_recv] at this
    exact Entails.of_eq (congrArg cred this)

end Cert.KernelIdeal.Reduce

end
-- ==== Proof.KernelIdeal.Launch.lean ====
/-
# The run

What the launch hands each device and what it takes back, and the run of the whole program: it ends, its operands as
they were, its counters at zero, and each device's result the sixteen column blocks the kernel stored.
-/
module

public import proofs.«01_k».proof.Proof.KernelIdeal.Hold
public import proofs.«01_k».proof.Proof.KernelIdeal.Deal
public import proofs.«01_k».proof.Proof.Gen.KernelIdeal.Launch
public import Idealize.ShloMosaic.Lib.Pipeline.CollectiveSegs
public import Idealize.ShloMosaic.Lib.StableHlo.RunHlo

@[expose] public section

noncomputable section

namespace Cert.KernelIdeal.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide +kernel

theorem share_eq (c : Dev nD) (w : Fin cfg0.W) : (dats m ρ 0 c).share w = fullShare := by unfold Dat.share; split <;> rfl

/-- What device `c` is dealt, from its tokens, its positions and its credit. -/
theorem dealt_intro (c : Dev nD) :
    iprop(Pipeline.launchCred (fun d => owing d dues) c ∗ lone c) ⊢ (dealt c : sProp 𝕄) := by
  unfold lone payToks dealt
  rw [keys_apart fun k => (atPos ER (kcell c k) 0 ∅ 0 : sProp 𝕄), both, three]
  iintro ⟨Hcr, ⟨Hb, Hs, Hr⟩, ⟨H1, H2, H3⟩, Hts, Htr⟩
  ihave Hc := (credits (F := F) c) $$ Hcr
  icases Hc with ⟨Hcb, Hcr⟩
  isplitl [Hb H1 H2 H3 Hcb]
  · isplitl [H1]; · iexact H1
    isplitl [H2]; · iexact H2
    isplitl [H3]; · iexact H3
    isplitl [Hcb]; · iexact Hcb
    iexact Hb
  isplitl [Hs Hts Htr]
  · unfold tokens
    rw [bigSep_sep', bigSep_sep']
    isplitl [Hts]; · iexact Hts
    isplitl [Htr]; · iexact Htr
    iexact Hs
  · unfold due
    rw [bigSep_sep']
    isplitl [Hcr]; · iexact Hcr
    iexact Hr

theorem start_intro (c : Dev nD) :
    iprop(Pipeline.unscopedRestP Pipeline.Prefetch.none cfg0.spec c (fun b => m ((c : Thread nD τ).loc b)) ∗ levAts L lv
        ∗ Pipeline.launchCred (fun d => owing d dues) c ∗ prngReg c (ρ c) ∗ G' (xs m ρ) (ds m ρ) c)
      ⊢ |={Set.univ}=> iprop(start m ρ c ∗ emp) := by
  unfold start G' book levels
  iintro ⟨-, Hlev, Hcr, -, ⟨%K, ⟨HI, HR⟩, Hl⟩⟩
  ihave Hd := (dealt_intro (F := F) c) $$ [Hcr Hl]
  · isplitl [Hcr] <;> iassumption
  imodintro
  isplitl
  · isplitr [Hd]
    · iexists K
      isplitl [HI]; · iexact HI
      isplitl [HR] <;> iassumption
    iexact Hd
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  iapply (((scratch_eq (F := F) c).1).trans (lent_of c)); iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, unscoped_eq]
  unfold Φ₁ Pipeline.ownSems0
  iintro ⟨Hr, Hz⟩
  ihave Hz := (zeros_closed (F := F) c) $$ Hz
  icases Hz with ⟨Ho, Hb⟩
  isplitl [Hb]; · iexact Hb
  isplitl [Ho]; · iexact Ho
  iapply ((of_back c).trans (scratch_eq (F := F) c).2); iexact Hr

set_option maxRecDepth 100000 in
theorem waits (c : Dev nD) : (levAts L lv : sProp 𝕄) ⊢ Pipeline.cellsWaits cfgs (dats m ρ) () 0 c :=
  Pipeline.cellsWaits_intro cfgs (dats m ρ) () 0 c fun w s t => by
    have hk : keyOf (.dma ((cfg0.win w).sem s)) = none := by fin_cases w <;> fin_cases s <;> decide +kernel
    rcases t with ⟨_ | _, ht⟩
    · refine mayWait (F := F) c _ dues ?_
      rw [hk]; decide +kernel
    · exact mayWait (F := F) c _ [] fun _ h => absurd h List.not_mem_nil

/-! ## The run -/

def finalA (c : Dev nD) (w : Fin cfg0.W) : Buf (Elt F) ((cfg0.win w).arr.view.loc (c : Thread nD τ)) := (dats m ρ 0 c).arrAt w cfg0.N

/-- Every device's arrays at the end. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every fair run of the program on the sixteen devices, from any memory with its counters at zero, ends, every device's
    arrays at the contents named and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun d => owing d dues) (howed₀ := fun _ => rfl) (howedN := fun _ => rfl)
    (L := L) (lv := lv) (hL := L_of_ne) (hwaits := waits m ρ)
    (G := G (xs m ρ) (ds m ρ)) (G' := G' (xs m ρ) (ds m ρ)) (u₀ := u₀)
    (hu₀ := by
      unfold u₀
      iintro Hu
      ihave H := (ownU_pair _ _) $$ Hu
      icases H with ⟨HP, HX⟩
      imod (fund_cells (xs m ρ) (ds m ρ)) $$ HX with HG
      imodintro
      isplitl [HP] <;> iassumption)
    (hglob := glob (xs m ρ) (ds m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands are as they were. -/
theorem finalA_x (c : Dev nD) : finalA m ρ c (0 : Fin 3) = m ((c : Thread nD τ).loc main_arg0) :=
  (dats (F := F) m ρ 0 c).arrAt_in (0 : Fin 3) rfl _
theorem finalA_dy (c : Dev nD) : finalA m ρ c (1 : Fin 3) = m ((c : Thread nD τ).loc main_arg1) :=
  (dats (F := F) m ρ 0 c).arrAt_in (1 : Fin 3) rfl _

/-- The windows are whole arrays: read, they give what the arrays hold. -/
theorem xs_eq (c : Dev nD) : xs m ρ c = m ((c : Thread nD τ).loc main_arg0) :=
  Memref.read_access_unit_zero (Elt F) main_arg0
    (show (fun a => (win0_0.index (0 : Fin 1)) a * main_arg0.ty.shape.size a) = fun _ => 0 from funext fun a => by fin_cases a <;> decide)
    (fun a => by fin_cases a <;> decide) _
theorem ds_eq (c : Dev nD) : ds m ρ c = m ((c : Thread nD τ).loc main_arg1) :=
  Memref.read_access_unit_zero (Elt F) main_arg1
    (show (fun a => (win0_1.index (0 : Fin 1)) a * main_arg1.ty.shape.size a) = fun _ => 0 from funext fun a => by fin_cases a <;> decide)
    (fun a => by fin_cases a <;> decide) _
theorem read_res (c : Dev nD) (f : Buf (Elt F) ((c : Thread nD τ).loc main_v1)) : (win0_2.blk t0_0).view.read (Elt F) f = f :=
  Memref.read_access_unit_zero (Elt F) main_v1
    (show (fun a => (win0_2.index t0_0) a * main_v1.ty.shape.size a) = fun _ => 0 from funext fun a => by fin_cases a <;> decide)
    (fun a => by fin_cases a <;> decide) _

/-- The result array ends holding what the kernel stored. -/
theorem finalA_out (c : Dev nD) : finalA m ρ c (2 : Fin 3) = outAll c (xs m ρ) (ds m ρ) := by
  have hw : ((cfg0.win 2).blk t0_0).view.read (Elt F) (finalA m ρ c (2 : Fin 3)) = (dats m ρ 0 c).flushed 2 t0_0 := by
    unfold finalA
    rw [show cfg0.N = t0_0.val + 1 from rfl, (dats m ρ 0 c).arrAt_succ (2 : Fin 3) t0_0, flush0_2, if_pos rfl]
    exact View.read_write_univ _ _
  exact (read_res c _).symm.trans (hw.trans (by
    show (cfg0.win 2).cut _ ((dats m ρ 0 c).after 2 t0_0) = _
    exact funext fun _ => rfl))

/-- The run, in the program's own names: the result as the kernel leaves it, the operands as they were. -/
theorem run_named : θ_run defs (onTc (τ := τ) (main (F := F))) (s₀ m ρ) (fun r =>
    (∀ c : Dev nD, r.2.mem ((c.tc : Thread nD τ).loc main_v1)
        = outAll c (fun c => m ((c.tc : Thread nD τ).loc main_arg0)) (fun c => m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) := by
  refine θ_run_mono (run_main m ρ) ?_
  rintro r ⟨h, hs⟩
  refine ⟨fun c => ⟨?_, (h c (0 : Fin 3)).trans (finalA_x m ρ c), (h c (1 : Fin 3)).trans (finalA_dy m ρ c)⟩, hs⟩
  rw [← (funext (xs_eq m ρ)), ← (funext (ds_eq m ρ))]
  exact (h c (2 : Fin 3)).trans (finalA_out m ρ c)

end Cert.KernelIdeal.Reduce

end
-- ==== Proof.Ref.lean ====
/-
# The reference's run

The reference is two operations on one device: the transpose of `x`, and its product with `dy`. Its result is that
product, and it leaves both arguments as they were.
-/
module

public import proofs.«01_k».proof.Proof.Gen.ReferenceIdeal
public import Idealize.ShloMosaic.Lib.Pointwise

@[expose] public section

noncomputable section

namespace Cert.ReferenceIdeal.Product

open Cert.ReferenceIdeal Cert.ReferenceIdeal.Gen
open Idealize.ShloMosaic Idealize.ShloMosaic.TcCoe Idealize.ShloMosaic.StableHlo Idealize.SL.Sem

variable {F : FTy → Type} [FloatOps F]

/-- The reference's result, of its two arguments. -/
def product (x : FVec F S2048x1024 .f32) (y : FVec F S2048x4096 .f32) : FVec F S1024x4096 .f32 :=
  Host.dotGeneral dot_S1024x2048_S2048x4096_S1024x4096_1_0_0_1_n_n none
    (transpose S1024x2048 [1, 0] x transposes_S2048x1024_S1024x2048_1_0) y

/-- The program's two operations. -/
abbrev steps : List (HloOp τ sig (Elt F)) :=
  [ unary main_arg0 main_v0 (transpose S1024x2048 [1, 0] · transposes_S2048x1024_S1024x2048_1_0),
    binary main_v0 main_arg1 main_v1 (fun l r => Host.dotGeneral dot_S1024x2048_S2048x4096_S1024x4096_1_0_0_1_n_n none l r) ]

theorem main_steps (c : Dev nD) : main (F := F) c = seq steps := rfl

/-- What the two operations leave in the result's buffer, -/
theorem result_after (V : Valuation τ sig (Elt F)) :
    after steps V (main_v1 : DevRef τ sig) = product (V (main_arg0 : DevRef τ sig)) (V (main_arg1 : DevRef τ sig)) := by
  after_results
  rfl
/-- and in the arguments'. -/
theorem x_after (V : Valuation τ sig (Elt F)) : after steps V (main_arg0 : DevRef τ sig) = V (main_arg0 : DevRef τ sig) := by
  after_results
theorem y_after (V : Valuation τ sig (Elt F)) : after steps V (main_arg1 : DevRef τ sig) = V (main_arg1 : DevRef τ sig) := by
  after_results

theorem no_scoped_buffer : (Finset.univ.filter fun b : Ref sig .tc => b.isScoped) = ∅ := by decide
theorem no_scoped_semaphore : (Finset.univ.filter fun s : SemLoc sig => s.isScoped .tc) = ∅ := by decide

theorem steps_local : (steps : List (HloOp τ sig (Elt F))).Forall fun op => op.bufs ⊆ tcRefs τ sig :=
  ⟨unary_bufs_sub .., binary_bufs_sub ..⟩

/-- From any memory: the reference terminates with the product in its result, its arguments as they were, and (having
    none) every semaphore at zero. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD,
        r.2.mem ((c.tc : Thread nD τ).loc main_v1)
            = product (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 := by
  refine (θ_run defs _ _).mono (fun r h => ⟨fun c => ⟨?_, ?_, ?_⟩, sem_eq_zero_of_no_sems (by decide) r.2⟩)
    (run_seq no_scoped_buffer no_scoped_semaphore defs main (fun _ => steps) main_steps (fun _ => steps_local) m ρ)
  · exact (h c main_v1).trans (result_after _)
  · exact (h c main_arg0).trans (x_after _)
  · exact (h c main_arg1).trans (y_after _)

/-- At the extended reals, an element of the product is the sum over the 2048 rows. -/
theorem product_at (x : FVec Ideal S2048x1024 .f32) (y : FVec Ideal S2048x4096 .f32) (i : Fin 1024) (j : Fin 4096) :
    product (F := Ideal) x y (ix2 i j) = ∑ k : Fin 2048, (x (ix2 k i) * y (ix2 k j) : EReal) := by
  unfold product
  pointwise

end Cert.ReferenceIdeal.Product

end
-- ==== Proof.Value.lean ====
/-
# The value: every device's result is its block of the product

At the extended reals a column block of a device's result is a sum of two sums of 1024 products: its own rows' and its
partner's. The two rings hold the two halves of the rows, so together they are the sum over all 2048.
-/
module

public import proofs.«01_k».proof.Proof.KernelIdeal.Blocks
public import proofs.«01_k».proof.Proof.Ref
public import Idealize.ShloMosaic.Lib.Layout

@[expose] public section

noncomputable section

namespace Cert.KernelIdeal.Reduce

open Cert.KernelIdeal Cert.KernelIdeal.Gen
open Idealize.ShloMosaic
open Cert.ReferenceIdeal.Product (product product_at)

/-! ## The kernel's product of two tiles -/

/-- A product of tiles at an element: the sum over the 1024 rows both tiles have. -/
theorem tile_at (a : FVec Ideal S1024x512 .f32) (b : FVec Ideal S1024x256 .f32) (i : Fin 512) (j : Fin 256) :
    matmul dot_S1024x512_S1024x256_S512x256_0_0_1_1_n_n none a b (constant S512x256 .f32 0x00000000#32) (ix2 i j)
      = ∑ k : Fin 1024, (a (ix2 k i) * b (ix2 k j) : EReal) := by
  pointwise

variable (x : Dev nD → (⟨S1024x1024, .f32⟩ : BufTy).Contents (Elt Ideal))
variable (dy : Dev nD → (⟨S1024x4096, .f32⟩ : BufTy).Contents (Elt Ideal))

/-- A device's part of the product at row `i` and column `j` of the result: the sum over the rows it holds. -/
def part (c : Dev nD) (i : Fin 1024) (j : Fin 4096) : EReal := ∑ k : Fin 1024, (x c (ix2 k i) * dy c (ix2 k j) : EReal)

/-- Row `i` of the half of the result's rows that ring `y` computes, -/
def rowAt (y : Fin 2) (i : Fin 512) : Fin 1024 := ⟨512 * y.val + i.val, by have := y.isLt; have := i.isLt; omega⟩
/-- and column `j` of column block `b`. -/
def colAt (b : Fin 16) (j : Fin 256) : Fin 4096 := ⟨256 * b.val + j.val, by have := b.isLt; have := j.isLt; omega⟩

/-! ## The kernel's loads at an element -/

/-- A load of 256 columns of `dy` from column block `b` on; -/
theorem load_dy (f : (⟨S1024x4096, .f32⟩ : BufTy).Contents (Elt Ideal)) {off : Fin 2 → ℕ} (b : Fin 16) (h : off = ![0, 256 * b.val])
    (inb : ∀ a, off a + S1024x256.size a ≤ S1024x4096.size a) (k : Fin 1024) (j : Fin 256) :
    dyM.view.readAt (Elt Ideal) (Rect.unit (s := S1024x4096) off S1024x256.size inb).toLoadRect f (ix2 k j) = f (ix2 k (colAt b j)) := by
  subst h
  refine congrArg f (funext fun a => Fin.ext ?_)
  fin_cases a
  · show 0 + 1 * k.val = k.val; omega
  · show 256 * b.val + 1 * j.val = 256 * b.val + j.val; omega

/-- a load of 512 columns of `x`, those of the result's rows that ring `y` computes. -/
theorem load_x (f : (⟨S1024x1024, .f32⟩ : BufTy).Contents (Elt Ideal)) {off : Fin 2 → ℕ} (y : Fin 2) (h : off = ![0, 512 * y.val])
    (inb : ∀ a, off a + S1024x512.size a ≤ S1024x1024.size a) (k : Fin 1024) (i : Fin 512) :
    xM.view.readAt (Elt Ideal) (Rect.unit (s := S1024x1024) off S1024x512.size inb).toLoadRect f (ix2 k i) = f (ix2 k (rowAt y i)) := by
  subst h
  refine congrArg f (funext fun a => Fin.ext ?_)
  fin_cases a
  · show 0 + 1 * k.val = k.val; omega
  · show 512 * y.val + 1 * i.val = 512 * y.val + i.val; omega

/-! ## The blocks at an element -/

theorem partA_at (c : Dev nD) (i : Fin 512) (j : Fin 256) :
    partA (F := Ideal) x dy c (ix2 i j) = part x dy c (rowAt (row (across c)) i) (colAt (blk c 0) j) := by
  unfold partA k0_pay5 k0_pay3 k0_pay1
  simp only [shapeCast_id]
  refine (tile_at _ _ i j).trans (Finset.sum_congr rfl fun k _ => ?_)
  exact congrArg₂ _ (load_x (x c) _ (off3_eq c) _ k i) (load_dy (dy c) _ (off1_eq c) _ k j)

theorem partB_at (c : Dev nD) (i : Fin 512) (j : Fin 256) :
    partB (F := Ideal) x dy c (ix2 i j) = part x dy c (rowAt (row (across c)) i) (colAt (blk c 1) j) := by
  unfold partB k0_pay6 k0_pay3 k0_pay2
  simp only [shapeCast_id]
  refine (tile_at _ _ i j).trans (Finset.sum_congr rfl fun k _ => ?_)
  exact congrArg₂ _ (load_x (x c) _ (off3_eq c) _ k i) (load_dy (dy c) _ (off2_eq c) _ k j)

theorem blk_across (c : Dev nD) (s : Fin 2) : blk (across c) s = blk c s := by unfold blk; simp only [pos_across]

/-- A finished block: the device's own part and its partner's, at one row and one column of the result. -/
theorem acc_at (s : Fin 2) (c : Dev nD) (i : Fin 512) (j : Fin 256) :
    acc (F := Ideal) x dy s c (ix2 i j)
      = part x dy c (rowAt (row c) i) (colAt (blk c s) j) + part x dy (across c) (rowAt (row c) i) (colAt (blk c s) j) := by
  unfold acc
  fin_cases s
  · have h := partA_at x dy (across c) i j
    rw [across_across, blk_across] at h
    show accA x dy c (ix2 i j) = _
    unfold accA k0_pay7 k0_pay1 k0_pay4
    simp only [shapeCast_id]
    refine congrArg₂ (fun a b : EReal => a + b) ((tile_at _ _ i j).trans (Finset.sum_congr rfl fun k _ => ?_)) h
    exact congrArg₂ _ (load_x (x c) _ (off4_eq c) _ k i) (load_dy (dy c) _ (off1_eq c) _ k j)
  · have h := partB_at x dy (across c) i j
    rw [across_across, blk_across] at h
    show accB x dy c (ix2 i j) = _
    unfold accB k0_pay11 k0_pay10 k0_pay2 k0_pay4
    simp only [shapeCast_id]
    refine congrArg₂ (fun a b : EReal => a + b) ((tile_at _ _ i j).trans (Finset.sum_congr rfl fun k _ => ?_)) h
    exact congrArg₂ _ (load_x (x c) _ (off4_eq c) _ k i) (load_dy (dy c) _ (off2_eq c) _ k j)

/-! ## Both rings' rows are all rows -/

variable (X : FVec Ideal Cert.ReferenceIdeal.S2048x1024 .f32) (Y : FVec Ideal Cert.ReferenceIdeal.S2048x4096 .f32)

/-- Row `k` of the rows a device of ring `y` holds, among all rows. -/
def held2048 (y : Fin 2) (k : Fin 1024) : Fin 2048 := ⟨1024 * y.val + k.val, by have := y.isLt; have := k.isLt; omega⟩

/-- A sum over the rows one ring holds and over those the other holds is the sum over all rows, whichever ring is first. -/
theorem sum_rings (f : Fin 2048 → EReal) (y : Fin 2) :
    ∑ k : Fin 1024, f (held2048 y k) + ∑ k : Fin 1024, f (held2048 (y + 1) k) = ∑ k : Fin 2048, f k := by
  have h : ∑ k : Fin 1024, f (held2048 0 k) + ∑ k : Fin 1024, f (held2048 1 k) = ∑ k : Fin 2048, f k := by
    refine Eq.symm ((Fin.sum_univ_add (a := 1024) (b := 1024) f).trans ?_)
    refine congrArg₂ _ (Finset.sum_congr rfl fun k _ => congrArg f (Fin.ext ?_)) (Finset.sum_congr rfl fun k _ => congrArg f (Fin.ext ?_))
    · show k.val = 1024 * 0 + k.val; omega
    · show 1024 + k.val = 1024 * 1 + k.val; omega
  fin_cases y
  · exact h
  · exact (add_comm _ _).trans h

/-- When each device holds its ring's rows of `X` and `Y`, a finished block is a tile of the product. -/
theorem acc_product (hx : ∀ c k i, x c (ix2 k i) = X (ix2 (held2048 (row c) k) i))
    (hy : ∀ c k j, dy c (ix2 k j) = Y (ix2 (held2048 (row c) k) j)) (s : Fin 2) (c : Dev nD) (i : Fin 512) (j : Fin 256) :
    acc (F := Ideal) x dy s c (ix2 i j) = product (F := Ideal) X Y (ix2 (rowAt (row c) i) (colAt (blk c s) j)) := by
  rw [acc_at, product_at]
  refine Eq.trans ?_ (sum_rings (fun k => X (ix2 k (rowAt (row c) i)) * Y (ix2 k (colAt (blk c s) j))) (row c))
  rw [← row_across]
  unfold part
  simp only [hx, hy]

theorem row_place : ∀ (p : Fin 8) (y : Fin 2), row (place p y) = y := by decide +kernel
theorem pos_place : ∀ (p : Fin 8) (y : Fin 2), pos (place p y) = p := by decide +kernel

/-- Every device's result is its ring's rows of the product. -/
theorem outAll_product (hx : ∀ c k i, x c (ix2 k i) = X (ix2 (held2048 (row c) k) i))
    (hy : ∀ c k j, dy c (ix2 k j) = Y (ix2 (held2048 (row c) k) j)) (c : Dev nD) (i : Fin 512) (j : Fin 4096) :
    outAll (F := Ideal) c x dy (ix2 i j) = product (F := Ideal) X Y (ix2 (rowAt (row c) i) j) := by
  have hj := j.isLt
  have hb : j.val / 256 < 16 := by omega
  have e : outAll (F := Ideal) c x dy (ix2 i j)
      = outBlk c x dy ⟨j.val / 256, hb⟩ (ix2 i (⟨j.val % 256, Nat.mod_lt _ (by decide)⟩ : Fin 256)) := by
    unfold outAll
    exact congrArg _ (funext fun a => by fin_cases a <;> rfl)
  rw [e]
  unfold outBlk
  rw [acc_product x dy X Y hx hy, row_place]
  refine congrArg (fun n => product (F := Ideal) X Y (ix2 (rowAt (row c) i) n)) (Fin.ext ?_)
  unfold colAt blk
  simp only [pos_place]
  omega

/-! ## Against the layout of the arrays -/

theorem mesh_row : ∀ c : Dev nD, Layout.meshLin [2, 2, 4] c.val [1] = (row c).val := by decide +kernel
theorem mesh_col : ∀ c : Dev nD, Layout.meshLin [2, 2, 4] c.val [] = 0 := by decide +kernel

/-- Of an array cut in two by rows along `y`, element `(k, i)` of a device's block is row `k` of its ring's rows. -/
theorem block_idx {R R' n : ℕ}
    (h : Layout.TilesN ⟨2, ![R, n]⟩ ⟨2, ![R', n]⟩ fun b => Layout.cutSize [2, 2, 4] ((![[1], []] : Fin 2 → List ℕ) b))
    (c : Dev nD) (k : Fin R) (i : Fin n) (q : Fin R') (hq : q.val = R * (row c).val + k.val) :
    h.idx (Layout.meshBlock [2, 2, 4] (![[1], []] : Fin 2 → List ℕ) c) (ix2 k i) = ix2 q i := by
  funext a
  refine Fin.ext ?_
  fin_cases a
  · show Layout.meshLin [2, 2, 4] c.val [1] * R + k.val = q.val
    rw [mesh_row, hq, Nat.mul_comm]
  · show Layout.meshLin [2, 2, 4] c.val [] * n + i.val = i.val
    rw [mesh_col, Nat.zero_mul, Nat.zero_add]

/-- From operands laid out by rows along `y`, every device's result is its block, laid out the same, of the product. -/
theorem outAll_block
    (hx : ∀ c : Dev nD, x c = Layout.blockN ⟨2, ![1024, 1024]⟩ ⟨2, ![2048, 1024]⟩ (Layout.meshBlock [2, 2, 4] ![[1], []] c) X)
    (hy : ∀ c : Dev nD, dy c = Layout.blockN ⟨2, ![1024, 4096]⟩ ⟨2, ![2048, 4096]⟩ (Layout.meshBlock [2, 2, 4] ![[1], []] c) Y)
    (c : Dev nD) :
    outAll (F := Ideal) c x dy
      = Layout.blockN ⟨2, ![512, 4096]⟩ ⟨2, ![1024, 4096]⟩ (Layout.meshBlock [2, 2, 4] ![[1], []] c) (product (F := Ideal) X Y) := by
  have hx' : ∀ c k i, x c (ix2 k i) = X (ix2 (held2048 (row c) k) i) := fun c k i => by
    rw [hx c]; exact congrArg X (block_idx _ c k i _ rfl)
  have hy' : ∀ c k j, dy c (ix2 k j) = Y (ix2 (held2048 (row c) k) j) := fun c k j => by
    rw [hy c]; exact congrArg Y (block_idx _ c k j _ rfl)
  funext i
  obtain ⟨a, b, rfl⟩ : ∃ (a : Fin 512) (b : Fin 4096), i = ix2 a b :=
    ⟨i 0, i 1, funext fun d => by fin_cases d <;> rfl⟩
  rw [outAll_product x dy X Y hx' hy' c a b]
  exact (congrArg (product (F := Ideal) X Y) (block_idx _ c a b _ rfl)).symm

end Cert.KernelIdeal.Reduce

end
-- ==== Proof.lean ====
/-
# The claims

The kernel's two printings run to the end from any memory, leave both operands as they were and every semaphore at zero;
so does the reference; and at the extended reals each device's whole result is its block of the reference's product.
-/
module

public import proofs.«01_k».proof.Defs
public import proofs.«01_k».proof.Proof.Kernel.Launch
public import proofs.«01_k».proof.Proof.KernelIdeal.Launch
public import proofs.«01_k».proof.Proof.Value

@[expose] public section

noncomputable section

namespace Cert.Proof

open Idealize.ShloMosaic Idealize.SL.Sem

/-- The kernel, at machine words, terminates, leaves its operands as they were and its semaphores at zero. -/
theorem frame_kernel : Cert.quiescent_Kernel := fun m g _ =>
  (θ_run Cert.Kernel.defs _ _).mono (fun _ h => ⟨fun c => (h.1 c).2, h.2⟩) (Cert.Kernel.Reduce.run_named (F := Bits) m g)

/-- So does the kernel at the extended reals, -/
theorem frame_kernel_ideal : Cert.quiescent_KernelIdeal := fun m g _ =>
  (θ_run Cert.KernelIdeal.defs _ _).mono (fun _ h => ⟨fun c => (h.1 c).2, h.2⟩) (Cert.KernelIdeal.Reduce.run_named (F := Ideal) m g)

/-- and the reference. -/
theorem frame_reference : Cert.quiescent_ReferenceIdeal := fun m g _ =>
  (θ_run Cert.ReferenceIdeal.defs _ _).mono (fun _ h => ⟨fun c => (h.1 c).2, h.2⟩) (Cert.ReferenceIdeal.Product.run (F := Ideal) m g)

/-- At the extended reals, from operands that are blocks of the reference's, every device's result is its block of the
    reference's result. -/
theorem value : Cert.algebraic_KernelIdeal_ReferenceIdeal := by
  intro m g m' g' _ hm
  refine ⟨Cert.ReferenceIdeal.Product.product (F := Ideal)
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r h c => ⟨(h.1 c).1.trans ?_, (h.1 c).2⟩)
      (Cert.KernelIdeal.Reduce.run_named (F := Ideal) m g)
    exact Cert.KernelIdeal.Reduce.outAll_block _ _ _ _ (fun c => (hm c).1) (fun c => (hm c).2) c
  · exact (θ_run Cert.ReferenceIdeal.defs _ _).mono (fun _ h => h.1 0) (Cert.ReferenceIdeal.Product.run (F := Ideal) m' g')

theorem claim : Cert.Claim :=
  ⟨Cert.Kernel.Gen.facts, Cert.KernelIdeal.Gen.facts, Cert.ReferenceIdeal.Gen.facts,
    ⟨frame_kernel, frame_kernel_ideal, frame_reference, trivial, value⟩⟩

end Cert.Proof

end
